-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![8, 128, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = Layout.block ⟨3, ![2, 128, 512]⟩ ⟨3, ![8, 128, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v48) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S8x128x16x64 : Shape := ⟨4, ![8, 128, 16, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S8x128x16x64 : S_.BroadcastsInDim S8x128x16x64 (![] : Fin 0 → Fin S8x128x16x64.rank)
  reducesTo_S8x128x16x64_S_d0_1_2_3 : S8x128x16x64.ReducesTo [0, 1, 2, 3] S_

variable [Facts]

def fn {F : FTy → Type} [FloatOps F] (main_arg0 : FVec F S2x128x512 .bf16) (main_arg1 : FVec F S512x256 .bf16) (main_arg2 : FVec F S8x128x16x64 .bf16) (main_arg3 : FVec F S8x128x16x64 .bf16) (main_arg4 : FVec F S256x512 .bf16) : IVec S_ 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S8x128x16x64 .bf16 := Host.absf main_arg2
  let main_cst_2 : FVec F S_ .bf16 := constant S_ .bf16 0x7F80#16
  let main_v10 : FVec F S8x128x16x64 .bf16 := broadcastInDim S8x128x16x64 ![] bcast_S_S8x128x16x64 main_cst_2
  let main_v11 : IVec S8x128x16x64 1 := cmpf .olt main_v9 main_v10
  let main_c_3 : IVec S_ 1 := constantI S_ 1 1#1
  let main_v12 : IVec S_ 1 := (fun x v => Host.reduce IntOp.andi x v reducesTo_S8x128x16x64_S_d0_1_2_3 h_S_) main_v11 main_c_3
  let main_v13 : IVec S_ 1 := andi main_v8 main_v12
  main_v13
-- ==== Pre_finite_ReferenceIdeal.lean ====
abbrev S8x128x512 : Shape := ⟨3, ![8, 128, 512]⟩
abbrev S512x1024 : Shape := ⟨2, ![512, 1024]⟩
abbrev S8x128x16x64 : Shape := ⟨4, ![8, 128, 16, 64]⟩
abbrev S1024x512 : Shape := ⟨2, ![1024, 512]⟩
abbrev S_ : Shape := ⟨0, ![]⟩

class Facts : Prop where
  bcast_S_S8x128x512 : S_.BroadcastsInDim S8x128x512 (![] : Fin 0 → Fin S8x128x512.rank)
  reducesTo_S8x128x512_S_d0_1_2 : S8x128x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S8x128x16x64 : S_.BroadcastsInDim S8x128x16x64 (![] : Fin 0 → Fin S8x128x16x64.rank)
  reducesTo_S8x128x16x64_S_d0_1_2_3 : S8x128x16x64.ReducesTo [0, 1, 2, 3] S_

variable [Facts]

def fn {F : FTy → Type} [FloatOps F] (main_arg0 : FVec F S8x128x512 .bf16) (main_arg1 : FVec F S512x1024 .bf16) (main_arg2 : FVec F S8x128x16x64 .bf16) (main_arg3 : FVec F S8x128x16x64 .bf16) (main_arg4 : FVec F S1024x512 .bf16) : IVec S_ 1 :=
  let main_v0 : FVec F S8x128x512 .bf16 := Host.absf main_arg0
  let main_cst : FVec F S_ .bf16 := constant S_ .bf16 0x7F80#16
  let main_v1 : FVec F S8x128x512 .bf16 := broadcastInDim S8x128x512 ![] bcast_S_S8x128x512 main_cst
  let main_v2 : IVec S8x128x512 1 := cmpf .olt main_v0 main_v1
  let main_c : IVec S_ 1 := constantI S_ 1 1#1
  let main_v3 : IVec S_ 1 := (fun x v => Host.reduce IntOp.andi x v reducesTo_S8x128x512_S_d0_1_2 h_S_) main_v2 main_c
  let main_v4 : FVec F S512x1024 .bf16 := Host.absf main_arg1
  let main_cst_0 : FVec F S_ .bf16 := constant S_ .bf16 0x7F80#16
  let main_v5 : FVec F S512x1024 .bf16 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S8x128x16x64 .bf16 := Host.absf main_arg2
  let main_cst_2 : FVec F S_ .bf16 := constant S_ .bf16 0x7F80#16
  let main_v10 : FVec F S8x128x16x64 .bf16 := broadcastInDim S8x128x16x64 ![] bcast_S_S8x128x16x64 main_cst_2
  let main_v11 : IVec S8x128x16x64 1 := cmpf .olt main_v9 main_v10
  let main_c_3 : IVec S_ 1 := constantI S_ 1 1#1
  let main_v12 : IVec S_ 1 := (fun x v => Host.reduce IntOp.andi x v reducesTo_S8x128x16x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S8x128x16x64 : Shape := ⟨4, ![8, 128, 16, 64]⟩
abbrev S256x512 : Shape := ⟨2, ![256, 512]⟩
abbrev S_ : Shape := ⟨0, ![]⟩
abbrev S2x128x16x64 : Shape := ⟨4, ![2, 128, 16, 64]⟩
abbrev S2x64x16x128 : Shape := ⟨4, ![2, 64, 16, 128]⟩
abbrev S2x64x2048 : Shape := ⟨3, ![2, 64, 2048]⟩
abbrev S1 : Shape := ⟨1, ![1]⟩
abbrev S2x64x4096 : Shape := ⟨3, ![2, 64, 4096]⟩
abbrev S2x128x1024 : Shape := ⟨3, ![2, 128, 1024]⟩
abbrev S2x128x2048 : Shape := ⟨3, ![2, 128, 2048]⟩
abbrev S4x512x256 : Shape := ⟨3, ![4, 512, 256]⟩
abbrev S4x256x512 : Shape := ⟨3, ![4, 256, 512]⟩
abbrev S3 : Shape := ⟨1, ![3]⟩
abbrev S1x512x256 : Shape := ⟨3, ![1, 512, 256]⟩
abbrev S1x256x512 : Shape := ⟨3, ![1, 256, 512]⟩
abbrev S256x256 : Shape := ⟨2, ![256, 256]⟩
abbrev S128x64 : Shape := ⟨2, ![128, 64]⟩
abbrev S1x64x128 : Shape := ⟨3, ![1, 64, 128]⟩
abbrev S64x128 : Shape := ⟨2, ![64, 128]⟩
abbrev S1x128x64 : Shape := ⟨3, ![1, 128, 64]⟩
abbrev S128x128 : Shape := ⟨2, ![128, 128]⟩
abbrev S128 : Shape := ⟨1, ![128]⟩
abbrev S128x1 : Shape := ⟨2, ![128, 1]⟩
abbrev S128x256 : Shape := ⟨2, ![128, 256]⟩
abbrev S128x512 : Shape := ⟨2, ![128, 512]⟩
abbrev S1x128x512 : Shape := ⟨3, ![1, 128, 512]⟩

abbrev nBuf : Space → Nat
  | .hbm => 115
  | .vmem => 8
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S8x128x16x64, .bf16⟩
  | .hbm, ⟨3, _⟩ => ⟨S8x128x16x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x16x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x16x64, .bf16⟩
  | .hbm, ⟨33, _⟩ => ⟨S2x64x16x128, .bf16⟩
  | .hbm, ⟨34, _⟩ => ⟨S2x64x2048, .bf16⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1, .i32⟩
  | .hbm, ⟨41, _⟩ => ⟨S1, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i1⟩
  | .hbm, ⟨57, _⟩ => ⟨S_, .i1⟩
  | .hbm, ⟨58, _⟩ => ⟨S_, .i1⟩
  | .hbm, ⟨59, _⟩ => ⟨S_, .i32⟩
  | .hbm, ⟨60, _⟩ => ⟨S_, .i32⟩
  | .hbm, ⟨61, _⟩ => ⟨S2x64x4096, .bf16⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S2x64x2048, .bf16⟩
  | .hbm, ⟨72, _⟩ => ⟨S2x128x1024, .bf16⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S1, .i32⟩
  | .hbm, ⟨79, _⟩ => ⟨S1, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i1⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i1⟩
  | .hbm, ⟨91, _⟩ => ⟨S_, .i32⟩
  | .hbm, ⟨92, _⟩ => ⟨S_, .i1⟩
  | .hbm, ⟨93, _⟩ => ⟨S_, .i32⟩
  | .hbm, ⟨94, _⟩ => ⟨S_, .i1⟩
  | .hbm, ⟨95, _⟩ => ⟨S_, .i1⟩
  | .hbm, ⟨96, _⟩ => ⟨S_, .i1⟩
  | .hbm, ⟨97, _⟩ => ⟨S_, .i32⟩
  | .hbm, ⟨98, _⟩ => ⟨S_, .i32⟩
  | .hbm, ⟨99, _⟩ => ⟨S2x128x2048, .bf16⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S_, .i1⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S2x128x1024, .bf16⟩
  | .hbm, ⟨110, _⟩ => ⟨S_, .bf16⟩
  | .hbm, ⟨111, _⟩ => ⟨S2x128x512, .bf16⟩
  | .hbm, ⟨112, _⟩ => ⟨S2x128x512, .bf16⟩
  | .hbm, ⟨113, _⟩ => ⟨S256x512, .bf16⟩
  | .hbm, ⟨114, _⟩ => ⟨S2x128x512, .bf16⟩
  | .local _ .vmem, ⟨0, _⟩ => ⟨S256x512, .bf16⟩
  | .local _ .vmem, ⟨1, _⟩ => ⟨S512x256, .bf16⟩
  | .local _ .vmem, ⟨2, _⟩ => ⟨S2x64x2048, .bf16⟩
  | .local _ .vmem, ⟨3, _⟩ => ⟨S2x128x1024, .bf16⟩
  | .local _ .vmem, ⟨4, _⟩ => ⟨S256x512, .bf16⟩
  | .local _ .vmem, ⟨5, _⟩ => ⟨S2x128x512, .bf16⟩
  | .local _ .vmem, ⟨6, _⟩ => ⟨S4x512x256, .bf16⟩
  | .local _ .vmem, ⟨7, _⟩ => ⟨S4x256x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_13 : Ref sig .tc := ⟨.hbm, 36, rfl⟩
abbrev main_v18 : Ref sig .tc := ⟨.hbm, 37, rfl⟩
abbrev main_c_14 : Ref sig .tc := ⟨.hbm, 38, rfl⟩
abbrev main_v19 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_c : Ref sig .tc := ⟨.hbm, 43, rfl⟩
abbrev main_call0_c_0 : Ref sig .tc := ⟨.hbm, 44, rfl⟩
abbrev main_call0_v3 : Ref sig .tc := ⟨.hbm, 45, rfl⟩
abbrev main_call0_call0_c : Ref sig .tc := ⟨.hbm, 46, rfl⟩
abbrev main_call0_call0_v0 : Ref sig .tc := ⟨.hbm, 47, rfl⟩
abbrev main_call0_call0_c_0 : Ref sig .tc := ⟨.hbm, 48, rfl⟩
abbrev main_call0_call0_v1 : Ref sig .tc := ⟨.hbm, 49, rfl⟩
abbrev main_call0_call0_v2 : Ref sig .tc := ⟨.hbm, 50, rfl⟩
abbrev main_call0_call0_c_1 : Ref sig .tc := ⟨.hbm, 51, rfl⟩
abbrev main_call0_call0_v3 : Ref sig .tc := ⟨.hbm, 52, rfl⟩
abbrev main_call0_call0_c_2 : Ref sig .tc := ⟨.hbm, 53, rfl⟩
abbrev main_call0_call0_v4 : Ref sig .tc := ⟨.hbm, 54, rfl⟩
abbrev main_call0_call0_c_3 : Ref sig .tc := ⟨.hbm, 55, rfl⟩
abbrev main_call0_call0_v5 : Ref sig .tc := ⟨.hbm, 56, rfl⟩
abbrev main_call0_call0_v6 : Ref sig .tc := ⟨.hbm, 57, rfl⟩
abbrev main_call0_call0_v7 : Ref sig .tc := ⟨.hbm, 58, rfl⟩
abbrev main_call0_call0_v8 : Ref sig .tc := ⟨.hbm, 59, rfl⟩
abbrev main_call0_v4 : Ref sig .tc := ⟨.hbm, 60, rfl⟩
abbrev main_call0_v5 : Ref sig .tc := ⟨.hbm, 61, rfl⟩
abbrev main_call0_c_1 : Ref sig .tc := ⟨.hbm, 62, rfl⟩
abbrev main_call0_v6 : Ref sig .tc := ⟨.hbm, 63, rfl⟩
abbrev main_call0_c_2 : Ref sig .tc := ⟨.hbm, 64, rfl⟩
abbrev main_call0_v7 : Ref sig .tc := ⟨.hbm, 65, rfl⟩
abbrev main_call0_c_3 : Ref sig .tc := ⟨.hbm, 66, rfl⟩
abbrev main_call0_v8 : Ref sig .tc := ⟨.hbm, 67, rfl⟩
abbrev main_call0_v9 : Ref sig .tc := ⟨.hbm, 68, rfl⟩
abbrev main_call0_c_4 : Ref sig .tc := ⟨.hbm, 69, rfl⟩
abbrev main_call0_c_5 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_c_15 : Ref sig .tc := ⟨.hbm, 74, rfl⟩
abbrev main_v23 : Ref sig .tc := ⟨.hbm, 75, rfl⟩
abbrev main_c_16 : Ref sig .tc := ⟨.hbm, 76, rfl⟩
abbrev main_v24 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_call1_c : Ref sig .tc := ⟨.hbm, 81, rfl⟩
abbrev main_call1_c_0 : Ref sig .tc := ⟨.hbm, 82, rfl⟩
abbrev main_call1_v3 : Ref sig .tc := ⟨.hbm, 83, rfl⟩
abbrev main_call1_call0_c : Ref sig .tc := ⟨.hbm, 84, rfl⟩
abbrev main_call1_call0_v0 : Ref sig .tc := ⟨.hbm, 85, rfl⟩
abbrev main_call1_call0_c_0 : Ref sig .tc := ⟨.hbm, 86, rfl⟩
abbrev main_call1_call0_v1 : Ref sig .tc := ⟨.hbm, 87, rfl⟩
abbrev main_call1_call0_v2 : Ref sig .tc := ⟨.hbm, 88, rfl⟩
abbrev main_call1_call0_c_1 : Ref sig .tc := ⟨.hbm, 89, rfl⟩
abbrev main_call1_call0_v3 : Ref sig .tc := ⟨.hbm, 90, rfl⟩
abbrev main_call1_call0_c_2 : Ref sig .tc := ⟨.hbm, 91, rfl⟩
abbrev main_call1_call0_v4 : Ref sig .tc := ⟨.hbm, 92, rfl⟩
abbrev main_call1_call0_c_3 : Ref sig .tc := ⟨.hbm, 93, rfl⟩
abbrev main_call1_call0_v5 : Ref sig .tc := ⟨.hbm, 94, rfl⟩
abbrev main_call1_call0_v6 : Ref sig .tc := ⟨.hbm, 95, rfl⟩
abbrev main_call1_call0_v7 : Ref sig .tc := ⟨.hbm, 96, rfl⟩
abbrev main_call1_call0_v8 : Ref sig .tc := ⟨.hbm, 97, rfl⟩
abbrev main_call1_v4 : Ref sig .tc := ⟨.hbm, 98, rfl⟩
abbrev main_call1_v5 : Ref sig .tc := ⟨.hbm, 99, rfl⟩
abbrev main_call1_c_1 : Ref sig .tc := ⟨.hbm, 100, rfl⟩
abbrev main_call1_v6 : Ref sig .tc := ⟨.hbm, 101, rfl⟩
abbrev main_call1_c_2 : Ref sig .tc := ⟨.hbm, 102, rfl⟩
abbrev main_call1_v7 : Ref sig .tc := ⟨.hbm, 103, rfl⟩
abbrev main_call1_c_3 : Ref sig .tc := ⟨.hbm, 104, rfl⟩
abbrev main_call1_v8 : Ref sig .tc := ⟨.hbm, 105, rfl⟩
abbrev main_call1_v9 : Ref sig .tc := ⟨.hbm, 106, rfl⟩
abbrev main_call1_c_4 : Ref sig .tc := ⟨.hbm, 107, rfl⟩
abbrev main_call1_c_5 : Ref sig .tc := ⟨.hbm, 108, rfl⟩
abbrev main_v25 : Ref sig .tc := ⟨.hbm, 109, rfl⟩
abbrev main_cst : Ref sig .tc := ⟨.hbm, 110, rfl⟩
abbrev main_v26 : Ref sig .tc := ⟨.hbm, 111, rfl⟩
abbrev main_v27 : Ref sig .tc := ⟨.hbm, 112, rfl⟩
abbrev main_v28 : Ref sig .tc := ⟨.hbm, 113, rfl⟩
abbrev main_v29 : Ref sig .tc := ⟨.hbm, 114, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_15 : BitVec 32 := 1#32
  let v19 : BitVec 32 := Scalar.muli v7 c1_i32_15
  let v20 : BitVec 32 := Scalar.addi c0_i32 v19
  v20.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_17 : BitVec 32 := 1#32
  let v21 : BitVec 32 := Scalar.muli v4 c1_i32_17
  let v22 : BitVec 32 := Scalar.addi c0_i32_18 v21
  v22.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_22 : BitVec 32 := 1#32
  let v23 : BitVec 32 := Scalar.muli v4 c1_i32_22
  let v24 : BitVec 32 := Scalar.addi c0_i32_23 v23
  v24.toNat
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_32 : BitVec 32 := 1#32
  let v33 : BitVec 32 := Scalar.muli v7 c1_i32_32
  let v34 : BitVec 32 := Scalar.addi c0_i32_33 v33
  v34.toNat
def k0_dev5 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_42 : BitVec 32 := 1#32
  let v43 : BitVec 32 := Scalar.muli v7 c1_i32_42
  let v44 : BitVec 32 := Scalar.addi c0_i32_43 v43
  v44.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_52 : BitVec 32 := 1#32
  let v53 : BitVec 32 := Scalar.muli v4 c1_i32_52
  let v54 : BitVec 32 := Scalar.addi c0_i32_53 v53
  v54.toNat
def k0_dev7 (d0 : Dev nD) : Nat :=
  let c0_i32_148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_147 : BitVec 32 := 1#32
  let v195 : BitVec 32 := Scalar.muli v4 c1_i32_147
  let v196 : BitVec 32 := Scalar.addi c0_i32_148 v195
  v196.toNat
def k0_dev8 (d0 : Dev nD) : Nat :=
  let c0_i32_168 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_167 : BitVec 32 := 1#32
  let v213 : BitVec 32 := Scalar.muli v7 c1_i32_167
  let v214 : BitVec 32 := Scalar.addi c0_i32_168 v213
  v214.toNat
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x64x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8x128x512 : Shape := ⟨3, ![8, 128, 512]⟩
abbrev S512x1024 : Shape := ⟨2, ![512, 1024]⟩
abbrev S8x128x16x64 : Shape := ⟨4, ![8, 128, 16, 64]⟩
abbrev S1024x512 : Shape := ⟨2, ![1024, 512]⟩
abbrev S8x128x1024 : Shape := ⟨3, ![8, 128, 1024]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S8x16x128x128 : Shape := ⟨4, ![8, 16, 128, 128]⟩
abbrev S1x1x128x128 : Shape := ⟨4, ![1, 1, 128, 128]⟩
abbrev S8x16x128 : Shape := ⟨3, ![8, 16, 128]⟩
abbrev S8x16x128x1 : Shape := ⟨4, ![8, 16, 128, 1]⟩
abbrev S1x1x128x1 : Shape := ⟨4, ![1, 1, 128, 1]⟩
abbrev S8x16x64x128 : Shape := ⟨4, ![8, 16, 64, 128]⟩

abbrev nBuf : Space → Nat
  | .hbm => 73
  | .vmem => 0
  | .smem => 0
  | _ => 0

abbrev bufTy : (tb : Table) → Fin (tcTables nBuf tb) → BufTy
  | .hbm, ⟨0, _⟩ => ⟨S8x128x512, .bf16⟩
  | .hbm, ⟨1, _⟩ => ⟨S512x1024, .bf16⟩
  | .hbm, ⟨2, _⟩ => ⟨S8x128x16x64, .bf16⟩
  | .hbm, ⟨3, _⟩ => ⟨S8x128x16x64, .bf16⟩
  | .hbm, ⟨4, _⟩ => ⟨S1024x512, .bf16⟩
  | .hbm, ⟨5, _⟩ => ⟨S8x128x1024, .f32⟩
  | .hbm, ⟨6, _⟩ => ⟨S8x128x1024, .bf16⟩
  | .hbm, ⟨7, _⟩ => ⟨S8x128x16x64, .bf16⟩
  | .hbm, ⟨8, _⟩ => ⟨S128, .i32⟩
  | .hbm, ⟨9, _⟩ => ⟨S128x1, .i32⟩
  | .hbm, ⟨10, _⟩ => ⟨S128, .i32⟩
  | .hbm, ⟨11, _⟩ => ⟨S1x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i1⟩
  | .hbm, ⟨19, _⟩ => ⟨S_, .i32⟩
  | .hbm, ⟨20, _⟩ => ⟨S1x128, .i32⟩
  | .hbm, ⟨21, _⟩ => ⟨S1x128, .i1⟩
  | .hbm, ⟨22, _⟩ => ⟨S_, .i32⟩
  | .hbm, ⟨23, _⟩ => ⟨S128x1, .i32⟩
  | .hbm, ⟨24, _⟩ => ⟨S128x1, .i1⟩
  | .hbm, ⟨25, _⟩ => ⟨S128x128, .i1⟩
  | .hbm, ⟨26, _⟩ => ⟨S128x128, .i1⟩
  | .hbm, ⟨27, _⟩ => ⟨S128x128, .i1⟩
  | .hbm, ⟨28, _⟩ => ⟨S128x128, .i1⟩
  | .hbm, ⟨29, _⟩ => ⟨S8x16x128x128, .f32⟩
  | .hbm, ⟨30, _⟩ => ⟨S8x16x128x128, .bf16⟩
  | .hbm, ⟨31, _⟩ => ⟨S8x16x128x128, .f32⟩
  | .hbm, ⟨32, _⟩ => ⟨S_, .f32⟩
  | .hbm, ⟨33, _⟩ => ⟨S8x16x128x128, .f32⟩
  | .hbm, ⟨34, _⟩ => ⟨S8x16x128x128, .f32⟩
  | .hbm, ⟨35, _⟩ => ⟨S1x1x128x128, .i1⟩
  | .hbm, ⟨36, _⟩ => ⟨S_, .f32⟩
  | .hbm, ⟨37, _⟩ => ⟨S_, .f32⟩
  | .hbm, ⟨38, _⟩ => ⟨S8x16x128x128, .i1⟩
  | .hbm, ⟨39, _⟩ => ⟨S8x16x128x128, .f32⟩
  | .hbm, ⟨40, _⟩ => ⟨S8x16x128x128, .f32⟩
  | .hbm, ⟨41, _⟩ => ⟨S_, .f32⟩
  | .hbm, ⟨42, _⟩ => ⟨S8x16x128, .f32⟩
  | .hbm, ⟨43, _⟩ => ⟨S8x16x128x1, .f32⟩
  | .hbm, ⟨44, _⟩ => ⟨S8x16x128x128, .f32⟩
  | .hbm, ⟨45, _⟩ => ⟨S8x16x128x128, .f32⟩
  | .hbm, ⟨46, _⟩ => ⟨S8x16x128x128, .f32⟩
  | .hbm, ⟨47, _⟩ => ⟨S_, .i1⟩
  | .hbm, ⟨48, _⟩ => ⟨S128, .i1⟩
  | .hbm, ⟨49, _⟩ => ⟨S1x1x128x1, .i1⟩
  | .hbm, ⟨50, _⟩ => ⟨S_, .f32⟩
  | .hbm, ⟨51, _⟩ => ⟨S8x16x128, .f32⟩
  | .hbm, ⟨52, _⟩ => ⟨S8x16x128x1, .f32⟩
  | .hbm, ⟨53, _⟩ => ⟨S_, .f32⟩
  | .hbm, ⟨54, _⟩ => ⟨S_, .f32⟩
  | .hbm, ⟨55, _⟩ => ⟨S8x16x128x1, .i1⟩
  | .hbm, ⟨56, _⟩ => ⟨S8x16x128x1, .f32⟩
  | .hbm, ⟨57, _⟩ => ⟨S8x16x128x1, .f32⟩
  | .hbm, ⟨58, _⟩ => ⟨S8x16x128x128, .f32⟩
  | .hbm, ⟨59, _⟩ => ⟨S8x16x128x128, .f32⟩
  | .hbm, ⟨60, _⟩ => ⟨S1x1x128x1, .i1⟩
  | .hbm, ⟨61, _⟩ => ⟨S_, .f32⟩
  | .hbm, ⟨62, _⟩ => ⟨S_, .f32⟩
  | .hbm, ⟨63, _⟩ => ⟨S8x16x128x128, .i1⟩
  | .hbm, ⟨64, _⟩ => ⟨S8x16x128x128, .f32⟩
  | .hbm, ⟨65, _⟩ => ⟨S8x16x128x128, .f32⟩
  | .hbm, ⟨66, _⟩ => ⟨S8x128x16x64, .f32⟩
  | .hbm, ⟨67, _⟩ => ⟨S8x16x64x128, .f32⟩
  | .hbm, ⟨68, _⟩ => ⟨S8x128x16x64, .f32⟩
  | .hbm, ⟨69, _⟩ => ⟨S8x128x1024, .f32⟩
  | .hbm, ⟨70, _⟩ => ⟨S1024x512, .f32⟩
  | .hbm, ⟨71, _⟩ => ⟨S8x128x512, .f32⟩
  | .hbm, ⟨72, _⟩ => ⟨S8x128x512, .bf16⟩
  | _, _ => ⟨S8x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]
-- ==== Proof.Slots.lean ====
/-
A scratch buffer of four equal blocks, `[4, a, b]`, and its four slots.

The kernel keeps its own weight block in slot `0` and receives the other devices' blocks in the slots `1`, `2`, `3`. A
slot is reached in two spellings: as a view of shape `[a, b]` (the ends of a remote copy) and as the box a load or a
store goes through. This module states what both mean, for any memref of that shape.
-/
module

public import Idealize.ShloMosaic.Lib.ValueLayout
public import Idealize.ShloMosaic.Lib.ValueIdxCore
public import Idealize.ShloMosaic.Lib.ViewIndex
public import Idealize.ShloMosaic.Lib.Pipeline.Kit

@[expose] public section

noncomputable section

namespace Cert.Slots

open Idealize.ShloMosaic Idealize.ShloMosaic.ValueIdx

variable {sig : RefSig} {a b : ℕ} {e : EltTy} {Val : EltTy → Type}

/-- The shape of the whole buffer, of one slot's box and of one slot. -/
abbrev S4 (a b : ℕ) : Shape := ⟨3, ![4, a, b]⟩
abbrev S1 (a b : ℕ) : Shape := ⟨3, ![1, a, b]⟩
abbrev S0 (a b : ℕ) : Shape := ⟨2, ![a, b]⟩

/-- The slot's box lies in the buffer. -/
abbrev In (a b k : ℕ) : Prop := ∀ x, (![k, 0, 0] : Fin 3 → ℕ) x + (S1 a b).size x ≤ (S4 a b).size x

/-- The box of slot `k`. -/
abbrev box (a b k : ℕ) (h : In a b k) : Rect (S4 a b) := Rect.unit (s := S4 a b) ![k, 0, 0] (S1 a b).size h

/-- Slot `k` as a view of shape `[a, b]`. -/
abbrev slot (M : Memref sig .tc .vmem (S4 a b) e) (k : ℕ) (h : In a b k) (hq : (S1 a b).Squeezes (S0 a b)) :
    Memref sig .tc .vmem (S0 a b) e := (M.slice (box a b k h) (fun _ => rfl)).squeeze (S0 a b) hq

theorem In.lt {k : ℕ} (h : In a b k) : k < 4 := by
  have := h 0
  simp at this; omega

/-- An index of a slot is the buffer's index behind the slot's number. -/
theorem slot_emb (M : Memref sig .tc .vmem (S4 a b) e) (k : ℕ) (h : In a b k) (hq : (S1 a b).Squeezes (S0 a b))
    (x : Fin a) (y : Fin b) :
    (slot M k h hq).view.emb (ix2 x y) = M.view.emb (ix3 (⟨k, h.lt⟩ : Fin 4) x y) := by
  show M.view.emb ((box a b k h).emb (Shape.reshapeEquiv _ (ix2 x y))) = _
  rw [reshapeEquiv_ix2_1ab]
  congr 1
  refine Shape.idx3_ext ?_ ?_ ?_
  · show k + 1 * 0 = k; omega
  · show 0 + 1 * x.val = x.val; omega
  · show 0 + 1 * y.val = y.val; omega

/-- The same of the box. -/
theorem box_emb (k : ℕ) (h : In a b k) (z : Fin 1) (x : Fin a) (y : Fin b) :
    (box a b k h).emb (ix3 z x y) = ix3 (⟨k, h.lt⟩ : Fin 4) x y := by
  refine Shape.idx3_ext ?_ ?_ ?_
  · show k + 1 * z.val = k; omega
  · show 0 + 1 * x.val = x.val; omega
  · show 0 + 1 * y.val = y.val; omega

/-- The elements of a slot are those of its box. -/
theorem slot_set (M : Memref sig .tc .vmem (S4 a b) e) (k : ℕ) (h : In a b k) (hq : (S1 a b).Squeezes (S0 a b)) :
    (slot M k h hq).view.set = (M.access (box a b k h)).set :=
  View.map_univ_equiv_trans _ (Shape.reshapeEquiv _)

/-- Reading a slot at `(x, y)`. -/
theorem slot_read (M : Memref sig .tc .vmem (S4 a b) e) (k : ℕ) (h : In a b k) (hq : (S1 a b).Squeezes (S0 a b))
    (f : M.view.ty.Contents Val) (x : Fin a) (y : Fin b) :
    (slot M k h hq).view.read Val f (ix2 x y) = M.view.read Val f (ix3 (⟨k, h.lt⟩ : Fin 4) x y) := by
  rw [View.read_apply, slot_emb]; rfl

/-- Different slots have no element in common. -/
theorem slot_disjoint (M : Memref sig .tc .vmem (S4 a b) e) {k k' : ℕ} (h : In a b k) (h' : In a b k')
    (hq : (S1 a b).Squeezes (S0 a b)) (hne : k ≠ k') : Disjoint (slot M k h hq).view.set (slot M k' h' hq).view.set := by
  rw [slot_set, slot_set]
  refine View.disjoint_slice (Rect.unit_disjoint 0 ?_)
  show k + 1 ≤ k' ∨ k' + 1 ≤ k
  omega

/-- Two contents agree on a slot when they read the same there. -/
theorem slot_congr (M : Memref sig .tc .vmem (S4 a b) e) (k : ℕ) (h : In a b k) (hq : (S1 a b).Squeezes (S0 a b))
    {f g : M.view.ty.Contents Val}
    (hfg : ∀ x y, M.view.read Val f (ix3 (⟨k, h.lt⟩ : Fin 4) x y) = M.view.read Val g (ix3 (⟨k, h.lt⟩ : Fin 4) x y)) :
    ∀ i ∈ (slot M k h hq).view.set, f i = g i := by
  intro i hi
  obtain ⟨j, -, rfl⟩ := Finset.mem_map.mp hi
  obtain ⟨x, y, rfl⟩ : ∃ (x : Fin a) (y : Fin b), j = ix2 x y := ⟨j 0, j 1, eq_ix2 j⟩
  rw [slot_emb]
  exact View.eq_of_read_eq (hfg x y)

/-- What a copy of slot `k` lands in slot `k'`: contents that read in `k'` what the source reads in `k`. -/
theorem slot_land (M M' : Memref sig .tc .vmem (S4 a b) e) {k k' : ℕ} (h : In a b k) (h' : In a b k')
    (hq : (S1 a b).Squeezes (S0 a b)) (f : M.view.ty.Contents Val) (fd g : M'.view.ty.Contents Val)
    (hfg : ∀ x y, M.view.read Val f (ix3 (⟨k, h.lt⟩ : Fin 4) x y) = M'.view.read Val g (ix3 (⟨k', h'.lt⟩ : Fin 4) x y)) :
    ∀ i ∈ (slot M' k' h' hq).view.set,
      (slot M' k' h' hq).view.write Val fd ((slot M k h hq).view.read Val f) Finset.univ i = g i := by
  refine slot_congr M' k' h' hq fun x y => ?_
  rw [← hfg x y, ← slot_read M k h hq f x y, ← slot_read M' k' h' hq]
  exact congrFun (View.read_write_univ (v := (slot M' k' h' hq).view) _ _) _

/-- What a store through a slot's box leaves there. -/
theorem slot_store (M : Memref sig .tc .vmem (S4 a b) e) (k : ℕ) (h : In a b k) (hq : (S1 a b).Squeezes (S0 a b))
    (f g : M.view.ty.Contents Val) (w : (S1 a b).Idx → Val e)
    (hw : ∀ x y, w (ix3 (0 : Fin 1) x y) = M.view.read Val g (ix3 (⟨k, h.lt⟩ : Fin 4) x y)) :
    ∀ i ∈ (slot M k h hq).view.set, (M.access (box a b k h)).write Val f w Finset.univ i = g i := by
  refine slot_congr M k h hq fun x y => ?_
  rw [← hw x y, ← box_emb k h (0 : Fin 1) x y]
  exact congrFun (View.read_write_univ (v := M.access (box a b k h)) f w) _

/-- A load through a slot's box reads the contents there. -/
theorem slot_load (M : Memref sig .tc .vmem (S4 a b) e) (k : ℕ) (h : In a b k) (f : M.view.ty.Contents Val)
    (z : Fin 1) (x : Fin a) (y : Fin b) :
    M.view.readAt Val (box a b k h).toLoadRect f (ix3 z x y) = M.view.read Val f (ix3 (⟨k, h.lt⟩ : Fin 4) x y) := by
  rw [← box_emb k h z x y]; rfl

/-- The four slots make up the buffer. -/
theorem slot_cover (M : Memref sig .tc .vmem (S4 a b) e) (h : ∀ k : Fin 4, In a b k.val) (hq : (S1 a b).Squeezes (S0 a b)) :
    Finset.univ.biUnion (fun k : Fin 4 => (slot M k.val (h k) hq).view.set) = M.view.set := by
  ext i
  simp only [Finset.mem_biUnion, Finset.mem_univ, true_and]
  constructor
  · rintro ⟨k, hk⟩
    exact View.set_slice_subset M.view _ ((slot_set M k.val (h k) hq) ▸ hk)
  · intro hi
    obtain ⟨j, -, rfl⟩ := Finset.mem_map.mp hi
    exact ⟨j 0, Finset.mem_map.mpr ⟨ix2 (j 1) (j 2), Finset.mem_univ _,
      (slot_emb M (j 0).val (h (j 0)) hq (j 1) (j 2)).trans (congrArg M.view.emb (Shape.idx3_ext rfl rfl rfl))⟩⟩

end Cert.Slots
-- ==== Proof.Ring.lean ====
/-
The kernel's protocol: who signals and copies onto which semaphore, and what each signal and each landing hands over.

Four devices in a ring; `nxt c = c + 1`, `prv c = c - 1`. Every device holds its own block of the two weight matrices and
needs all four. Slot `s` of its two scratch buffers is for the block of device `c + s`; slot `0` it fills itself.

* The barrier semaphore of `p` is signalled once by `nxt p` and once by `prv p`, and `p` waits for both. The signal of
  `nxt p` hands `p` the three slots of `nxt p` that `p` will copy into (`Wq` slots 3 and 2, `Wo` slot 3), the signal of
  `prv p` the three of `prv p` (`Wq` slot 1, `Wo` slots 1 and 2), each with the receive cell's opening.
* Six copies go out, each with a semaphore for its source and one for its landing:
  `Wq` slot 0 to `nxt`'s slot 3 (cells 6, 9), `Wq` slot 0 to `prv`'s slot 1 (7, 10), `Wq` slot 3 to `nxt`'s slot 2
  (8, 11), `Wo` slot 0 to `prv`'s slot 1 (12, 15), `Wo` slot 0 to `nxt`'s slot 3 (13, 16), `Wo` slot 1 to `prv`'s slot 2
  (14, 17). A source cell's payment gives the sender its share of the source back; a landing cell's payment gives the
  receiver the slot, holding the block of the device that the slot is for.
* Each cell is paid and waited for once. The barrier lies below the landings of own blocks (9, 10, 15, 16), these below
  the landings of forwarded ones (11, 17).
-/
module

public import proofs.«01_k».proof.Proof.Slots
public import proofs.«01_k».proof.Proof.Gen.KernelIdeal.Skeleton
public import proofs.«01_k».proof.Proof.Gen.KernelIdeal.Launch
public import Idealize.ShloMosaic.Lib.Pipeline.Regions
public import Idealize.ShloMosaic.Lib.Pipeline.Kit
public import Idealize.ShloMosaic.Lib.Rounds
public import Idealize.ShloMosaic.Lib.Tactic

@[expose] public section

noncomputable section

namespace Cert.KernelIdeal.Ring

open Cert.KernelIdeal Cert.KernelIdeal.Gen Cert.Slots
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's, and rounds with two duty names. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

set_option backward.proofsInPublic true in
/-- The device `k` places on. -/
def dv (c : Dev nD) (k : ℕ) : Dev nD := ⟨(c.val + k) % 4, Nat.mod_lt _ (by decide)⟩
abbrev nxt (c : Dev nD) : Dev nD := dv c 1
abbrev prv (c : Dev nD) : Dev nD := dv c 3

theorem dv_zero (c : Dev nD) : dv c 0 = c := by revert c; decide
theorem dv_dv (c : Dev nD) (j k : ℕ) : dv (dv c j) k = dv c (j + k) :=
  Fin.ext (by show ((c.val + j) % 4 + k) % 4 = (c.val + (j + k)) % 4; omega)
theorem prv_nxt (c : Dev nD) : prv (nxt c) = c := by revert c; decide
theorem nxt_prv (c : Dev nD) : nxt (prv c) = c := by revert c; decide
/-- The ring's two rotations, as equivalences. -/
def fwd : Dev nD ≃ Dev nD := ⟨nxt, prv, prv_nxt, nxt_prv⟩

/-- The devices that the kernel's words name. -/
theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide
theorem dev3_eq (c : Dev nD) : (⟨k0_dev3 c, k0_dev3_lt c⟩ : Dev nD) = nxt c := by revert c; decide
theorem dev4_eq (c : Dev nD) : (⟨k0_dev4 c, k0_dev4_lt c⟩ : Dev nD) = prv c := by revert c; decide
theorem dev5_eq (c : Dev nD) : (⟨k0_dev5 c, k0_dev5_lt c⟩ : Dev nD) = prv c := by revert c; decide
theorem dev6_eq (c : Dev nD) : (⟨k0_dev6 c, k0_dev6_lt c⟩ : Dev nD) = nxt c := by revert c; decide
theorem dev7_eq (c : Dev nD) : (⟨k0_dev7 c, k0_dev7_lt c⟩ : Dev nD) = nxt c := by revert c; decide
theorem dev8_eq (c : Dev nD) : (⟨k0_dev8 c, k0_dev8_lt c⟩ : Dev nD) = prv c := by revert c; decide

/-! ## The scratch buffers -/

abbrev wqM : Memref sig .tc .vmem S4x512x256 .bf16 := Memref.whole cc0_scratch0
abbrev woM : Memref sig .tc .vmem S4x256x512 .bf16 := Memref.whole cc0_scratch1

abbrev wqV (k : ℕ) (h : In 512 256 k) : Memref sig .tc .vmem S512x256 .bf16 := slot wqM k h squeezes_S1x512x256_S512x256
abbrev woV (k : ℕ) (h : In 256 512 k) : Memref sig .tc .vmem S256x512 .bf16 := slot woM k h squeezes_S1x256x512_S256x512

/-- Four blocks, one behind the other. -/
def stack {a b : ℕ} {α : Type} (f : ℕ → (S0 a b).Idx → α) : (S4 a b).Idx → α := fun i => f (i 0).val (ix2 (i 1) (i 2))

variable (wq : Dev nD → Vec F S512x256 .bf16) (wo : Dev nD → Vec F S256x512 .bf16)

/-- The contents of a device's scratch buffers once everything has landed. -/
def wqAll (c : Dev nD) : Buf (Elt F) (wqM.view.loc (c : Thread nD τ)) := stack (a := 512) (b := 256) fun s => wq (dv c s)
def woAll (c : Dev nD) : Buf (Elt F) (woM.view.loc (c : Thread nD τ)) := stack (a := 256) (b := 512) fun s => wo (dv c s)

/-- A share `q` of slot `k`. -/
def wqPt (q : PosShare TreeShare) (k : ℕ) (h : In 512 256 k) (c : Dev nD) (f : Buf (Elt F) (wqM.view.loc (c : Thread nD τ))) : sProp 𝕄 :=
  (wqV k h).view.loc (c : Thread nD τ) ↦[(wqV k h).view.set]{q} f
def woPt (q : PosShare TreeShare) (k : ℕ) (h : In 256 512 k) (c : Dev nD) (f : Buf (Elt F) (woM.view.loc (c : Thread nD τ))) : sProp 𝕄 :=
  (woV k h).view.loc (c : Thread nD τ) ↦[(woV k h).view.set]{q} f

omit [FloatOps F] in
instance wqPt_storable (q k h c f) : BI.Storable (upEmb : UEmb _ 𝕄) (wqPt (F := F) q k h c f) := by unfold wqPt; infer_instance
omit [FloatOps F] in
instance woPt_storable (q k h c f) : BI.Storable (upEmb : UEmb _ 𝕄) (woPt (F := F) q k h c f) := by unfold woPt; infer_instance

/-- The shares of a slot that is read by two copies and by the device, and of one read by a copy and the device. -/
abbrev qA : PosShare TreeShare := fullShare.left
abbrev qB : PosShare TreeShare := fullShare.right.left
abbrev qC : PosShare TreeShare := fullShare.right.right
abbrev qD : PosShare TreeShare := fullShare.right

omit [FloatOps F] in
theorem wq_two (k h) (c : Dev nD) (f) : wqPt (F := F) fullShare k h c f ⊣⊢ iprop(wqPt qA k h c f ∗ wqPt qD k h c f) :=
  pointsTo_share (PosShare.mem_left_op_right fullShare)
omit [FloatOps F] in
theorem wo_two (k h) (c : Dev nD) (f) : woPt (F := F) fullShare k h c f ⊣⊢ iprop(woPt qA k h c f ∗ woPt qD k h c f) :=
  pointsTo_share (PosShare.mem_left_op_right fullShare)
omit [FloatOps F] in
theorem wq_two' (k h) (c : Dev nD) (f) : wqPt (F := F) qD k h c f ⊣⊢ iprop(wqPt qB k h c f ∗ wqPt qC k h c f) :=
  pointsTo_share (PosShare.mem_left_op_right fullShare.right)
omit [FloatOps F] in
theorem wo_two' (k h) (c : Dev nD) (f) : woPt (F := F) qD k h c f ⊣⊢ iprop(woPt qB k h c f ∗ woPt qC k h c f) :=
  pointsTo_share (PosShare.mem_left_op_right fullShare.right)

/-! ## The cells -/

abbrev barS : Sem sig := sig.barrier 0 rfl
abbrev barCell (c : Dev nD) : GSem nD τ sig := ((c : Thread nD τ), .reg barS)
/-- The `n`-th DMA semaphore of the device. -/
abbrev dq (n : ℕ) (h : n < 18) : DmaSem sig := ⟨n, h⟩
abbrev cell (c : Dev nD) (n : ℕ) (h : n < 18 := by decide) : GSem nD τ sig := ((c : Thread nD τ), .dma (dq n h))

/-- What a copy of a slot credits. -/
abbrev Nq : ℕ := (wqV 0 inb_S4x512x256_S1x512x256_0_0_0).view.dmaCredit
abbrev No : ℕ := (woV 0 inb_S4x256x512_S1x256x512_0_0_0).view.dmaCredit
theorem Nq_pos : 0 < Nq := View.dmaCredit_pos _ (by decide)
theorem No_pos : 0 < No := View.dmaCredit_pos _ (by decide)

/-! ## The schedule -/

/-- What a neighbour's barrier signal hands `p`: from `nxt p` and from `prv p`. -/
def barT (p : Dev nD) : sProp 𝕄 :=
  iprop((∃ f, wqPt fullShare 3 inb_S4x512x256_S1x512x256_3_0_0 (nxt p) f) ∗ (∃ f, wqPt fullShare 2 inb_S4x512x256_S1x512x256_2_0_0 (nxt p) f)
    ∗ (∃ f, woPt fullShare 3 inb_S4x256x512_S1x256x512_3_0_0 (nxt p) f)
    ∗ reached ER (cell (nxt p) 9) 0 ∗ reached ER (cell (nxt p) 11) 0 ∗ reached ER (cell (nxt p) 16) 0)
def barF (p : Dev nD) : sProp 𝕄 :=
  iprop((∃ f, wqPt fullShare 1 inb_S4x512x256_S1x512x256_1_0_0 (prv p) f) ∗ (∃ f, woPt fullShare 1 inb_S4x256x512_S1x256x512_1_0_0 (prv p) f)
    ∗ (∃ f, woPt fullShare 2 inb_S4x256x512_S1x256x512_2_0_0 (prv p) f)
    ∗ reached ER (cell (prv p) 10) 0 ∗ reached ER (cell (prv p) 15) 0 ∗ reached ER (cell (prv p) 17) 0)

/-- What the payment of DMA cell `n` hands device `c`. -/
def dmaPay (n : ℕ) (c : Dev nD) : sProp 𝕄 :=
  match n with
  | 6 => wqPt qA 0 inb_S4x512x256_S1x512x256_0_0_0 c (wqAll wq c)
  | 7 => wqPt qB 0 inb_S4x512x256_S1x512x256_0_0_0 c (wqAll wq c)
  | 8 => wqPt qA 3 inb_S4x512x256_S1x512x256_3_0_0 c (wqAll wq c)
  | 9 => wqPt fullShare 3 inb_S4x512x256_S1x512x256_3_0_0 c (wqAll wq c)
  | 10 => wqPt fullShare 1 inb_S4x512x256_S1x512x256_1_0_0 c (wqAll wq c)
  | 11 => wqPt fullShare 2 inb_S4x512x256_S1x512x256_2_0_0 c (wqAll wq c)
  | 12 => woPt qA 0 inb_S4x256x512_S1x256x512_0_0_0 c (woAll wo c)
  | 13 => woPt qB 0 inb_S4x256x512_S1x256x512_0_0_0 c (woAll wo c)
  | 14 => woPt qA 1 inb_S4x256x512_S1x256x512_1_0_0 c (woAll wo c)
  | 15 => woPt fullShare 1 inb_S4x256x512_S1x256x512_1_0_0 c (woAll wo c)
  | 16 => woPt fullShare 3 inb_S4x256x512_S1x256x512_3_0_0 c (woAll wo c)
  | 17 => woPt fullShare 2 inb_S4x256x512_S1x256x512_2_0_0 c (woAll wo c)
  | _ => iprop(emp)

/-- The duties of a cell: the barrier has two, a copy's cell one; all in round `0`. -/
def dutiesOf (s : SemLoc sig) : Finset Bool := match s with | .reg _ => Finset.univ | .dma q => if 6 ≤ q.val then {true} else ∅
def amountOf (s : SemLoc sig) : ℕ := match s with | .reg _ => 1 | .dma q => if q.val < 12 then Nq else No
def payOf (s : SemLoc sig) (c : Dev nD) (d : Bool) : sProp 𝕄 :=
  match s with | .reg _ => (if d then barT c else barF c) | .dma q => dmaPay wq wo q.val c

def rd : Rounds.Schedule (GSem nD τ sig) Bool 𝕄 where
  duties g r := if r = 0 ∧ g.1.2 = .tc then dutiesOf g.2 else ∅
  unitless _ := False
  amount g _ _ := amountOf g.2
  payload g _ d := payOf wq wo g.2 g.1.1 d
  amount_pos g _ _ _ := by
    unfold amountOf
    split
    · exact Nat.one_pos
    · split
      · exact Nq_pos
      · exact No_pos

omit [FloatOps F] in
instance rd_storable (g : GSem nD τ sig) (r : ℕ) (d : Bool) :
    BI.Storable (upEmb : UEmb _ 𝕄) ((rd (F := F) wq wo).payload g r d) := by
  show BI.Storable upEmb (payOf wq wo g.2 g.1.1 d)
  unfold payOf barT barF dmaPay
  (repeat' split) <;> infer_instance

section Table
variable (c : Dev nD)

omit [FloatOps F] in
theorem duties_bar : (rd (F := F) wq wo).duties (barCell c) 0 = Finset.univ := by dsimp only [rd]; exact if_pos ⟨rfl, rfl⟩
omit [FloatOps F] in
theorem duties_dma {n : ℕ} (h : n < 18) (h6 : 6 ≤ n) : (rd (F := F) wq wo).duties (cell c n h) 0 = {true} := by
  dsimp only [rd]; rw [if_pos ⟨rfl, rfl⟩]; exact if_pos h6
omit [FloatOps F] in
theorem duties_later (g : GSem nD τ sig) : ∀ r, 1 ≤ r → (rd (F := F) wq wo).duties g r = ∅ :=
  fun r hr => by dsimp only [rd]; rw [if_neg fun h => by omega]
omit [FloatOps F] in
theorem mem_bar (d : Bool) : d ∈ (rd (F := F) wq wo).duties (barCell c) 0 := by rw [duties_bar]; exact Finset.mem_univ _
omit [FloatOps F] in
theorem mem_dma {n : ℕ} (h : n < 18) (h6 : 6 ≤ n) : true ∈ (rd (F := F) wq wo).duties (cell c n h) 0 := by
  rw [duties_dma wq wo c h h6]; exact Finset.mem_singleton_self _

omit [FloatOps F] in
theorem amount_q {n : ℕ} (h : n < 18) (hn : n < 12) (d : Bool) : (rd (F := F) wq wo).amount (cell c n h) 0 d = Nq := if_pos hn
omit [FloatOps F] in
theorem amount_o {n : ℕ} (h : n < 18) (hn : ¬ n < 12) (d : Bool) : (rd (F := F) wq wo).amount (cell c n h) 0 d = No := if_neg hn

omit [FloatOps F] in
theorem expect_bar : (rd (F := F) wq wo).expect (barCell c) 0 = 2 := by
  unfold Schedule.expect Schedule.amountOf
  rw [duties_bar]
  show Finset.univ.sum (fun _ : Bool => 1) = 2
  rfl
omit [FloatOps F] in
theorem expect_dma {n : ℕ} (h : n < 18) (h6 : 6 ≤ n) : (rd (F := F) wq wo).expect (cell c n h) 0 = amountOf (.dma (dq n h)) := by
  unfold Schedule.expect Schedule.amountOf; rw [duties_dma wq wo c h h6, Finset.sum_singleton]; rfl

omit [FloatOps F] in
theorem rest_bar : bigSep ((rd (F := F) wq wo).duties (barCell c) 0 \ ∅) (fun d => (rd (F := F) wq wo).payload (barCell c) 0 d)
    = iprop(barF c ∗ barT c) := by
  rw [Finset.sdiff_empty, duties_bar, bigSep_univ_eq_bigSepL [false, true] (by decide) (by decide), bigSepL_cons_cons, bigSepL_singleton]
  rfl
omit [FloatOps F] in
theorem rest_dma {n : ℕ} (h : n < 18) (h6 : 6 ≤ n) :
    bigSep ((rd (F := F) wq wo).duties (cell c n h) 0 \ ∅) (fun d => (rd (F := F) wq wo).payload (cell c n h) 0 d) = dmaPay wq wo n c := by
  rw [Finset.sdiff_empty, duties_dma wq wo c h h6, bigSep_singleton]; rfl

end Table

/-! ## What is owed, and the levels -/

/-- The `n`-th last cell that device `c` pays, and how much. -/
def payCell (c : Dev nD) : ℕ → GSem nD τ sig
  | 0 => cell (prv c) 17 | 1 => cell (nxt c) 11 | 2 => cell (nxt c) 16 | 3 => cell (prv c) 10 | 4 => cell (prv c) 15
  | 5 => cell (nxt c) 9 | 6 => barCell (nxt c) | _ => barCell (prv c)
def payAmt : ℕ → ℕ
  | 0 => No | 1 => Nq | 2 => No | 3 => Nq | 4 => No | 5 => Nq | _ => 1

/-- What device `c` owes with `n` payments to go. -/
def Ow (c : Dev nD) : ℕ → CellTallies nD τ sig Unit
  | 0 => 0
  | n + 1 => Ow c n + tallyAt (payCell c n) () (payAmt n)

theorem Ow_pos {c : Dev nD} {n : ℕ} {g : GSem nD τ sig} {u : Unit} (h : 0 < Ow c n g u) : ∃ j < n, g = payCell c j := by
  induction n with
  | zero => exact absurd h (Nat.lt_irrefl 0)
  | succ n ih =>
    by_cases hg : g = payCell c n
    · exact ⟨n, Nat.lt_succ_self n, hg⟩
    · have h' : 0 < Ow c n g u + tallyAt (payCell c n) () (payAmt n) g u := h
      rw [tallyAt_apply, if_neg (fun h' => hg h'.1), Nat.add_zero] at h'
      obtain ⟨j, hj, rfl⟩ := ih h'
      exact ⟨j, Nat.lt_succ_of_lt hj, rfl⟩

def L (g : GSem nD τ sig) : Finset Unit := if g.1.2 = .tc then {()} else ∅
def lvOf (s : SemLoc sig) : ℕ :=
  match s with
  | .reg _ => 1
  | .dma q => if q.val = 9 ∨ q.val = 10 ∨ q.val = 15 ∨ q.val = 16 then 2 else if q.val = 11 ∨ q.val = 17 then 3 else 0
def lv (g : GSem nD τ sig) (_ : Unit) : ℕ := lvOf g.2

theorem L_of_ne (g : GSem nD τ sig) (h : g.1.2 ≠ .tc) : L g = ∅ := if_neg h
theorem L_tc (c : Dev nD) (s : SemLoc sig) : L ((c : Thread nD τ), s) = {()} := if_pos rfl
theorem L_payCell (c : Dev nD) (n : ℕ) : L (payCell c n) = {()} := by
  unfold payCell; split <;> exact L_tc _ _

omit [FloatOps F] in
/-- A device may wait on a cell that lies below everything it still owes. -/
theorem mayWait (c : Dev nD) (s : SemLoc sig) (n : ℕ) (h : ∀ j < n, lvOf s < lvOf (payCell c j).2) :
    (levAts L lv : sProp 𝕄) ⊢ MayWait (c : Thread nD τ) s () (Ow c n) :=
  MayOwe.of_cut (L := L) (lev := lv) (lvOf s)
    (fun p hp => by rw [Finset.mem_singleton.mp hp, L_tc]; exact Finset.mem_singleton_self _)
    (fun g u hg => by obtain ⟨j, -, rfl⟩ := Ow_pos hg; rw [L_payCell]; exact Finset.mem_singleton_self _)
    (fun p hp => by rw [Finset.mem_singleton.mp hp]; exact le_refl _)
    (fun g u hg => by obtain ⟨j, hj, rfl⟩ := Ow_pos hg; exact h j hj)

end Cert.KernelIdeal.Ring
-- ==== Proof.Steps.lean ====
/-
The protocol's steps, each once: a signal, the wait for the barrier, a copy of a `Wq` slot, a copy of a `Wo` slot, and the
wait for a copy's cell.
-/
module

public import proofs.«01_k».proof.Proof.Ring

@[expose] public section

noncomputable section

namespace Cert.KernelIdeal.Ring

open Cert.KernelIdeal Cert.KernelIdeal.Gen Cert.Slots
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (wq : Dev nD → Vec F S512x256 .bf16) (wo : Dev nD → Vec F S256x512 .bf16)

/-- The thirteen cells of a device: the barrier and the copies' twelve. -/
def semOf (k : Fin 13) : SemLoc sig := if h : k.val = 0 then .reg barS else .dma (dq (k.val + 5) (by omega))
def kcell (ck : Dev nD × Fin 13) : GSem nD τ sig := ((ck.1 : Thread nD τ), semOf ck.2)

theorem kcell_bar (c : Dev nD) : kcell (c, 0) = barCell c := rfl
theorem kcell_dma (c : Dev nD) {n : ℕ} (h : n < 18) (h6 : 6 ≤ n) : kcell (c, ⟨n - 5, by omega⟩) = cell c n h := by
  unfold kcell semOf
  rw [dif_neg (by show ¬ n - 5 = 0; omega)]
  show ((c : Thread nD τ), SemLoc.dma (dq (n - 5 + 5) _)) = _
  congr 3; omega

variable (K : GSem nD τ sig → ℕ)

/-- Every cell's invariant, at the names that the launch gave. -/
def invs : sProp 𝕄 := bigSep Finset.univ fun ck : Dev nD × Fin 13 => cellInv ER (rd wq wo) (K (kcell ck)) (kcell ck)

omit [FloatOps F] in
instance invs_persistent : BI.Persistent (invs (F := F) wq wo K) := by unfold invs; infer_instance

omit [FloatOps F] in
theorem inv_at (ck : Dev nD × Fin 13) : invs (F := F) wq wo K ⊢ cellInv ER (rd wq wo) (K (kcell ck)) (kcell ck) := by
  unfold invs
  rw [bigSep_erase (Finset.mem_univ ck)]
  exact sep_elim_left

omit [FloatOps F] in
theorem inv_bar (c : Dev nD) : invs (F := F) wq wo K ⊢ cellInv ER (rd wq wo) (K (barCell c)) (barCell c) :=
  inv_at wq wo K (c, 0)
omit [FloatOps F] in
theorem inv_dma (c : Dev nD) {n : ℕ} (h : n < 18) (h6 : 6 ≤ n) :
    invs (F := F) wq wo K ⊢ cellInv ER (rd wq wo) (K (cell c n h)) (cell c n h) := by
  have e := inv_at (F := F) wq wo K (c, ⟨n - 5, by omega⟩)
  rw [kcell_dma c h h6] at e
  exact e

/-- Device `c` still owes its last `n` payments. -/
def owed (c : Dev nD) (n : ℕ) : sProp 𝕄 := iprop(∃ W, owes (c : Thread nD τ) (Ow c n) W)

variable {c : Dev nD}

omit [FloatOps F] in
theorem payload_eq (c : Dev nD) (s : SemLoc sig) (d : Bool) :
    payOf (F := F) wq wo s c d = (rd wq wo).payload ((c : Thread nD τ), s) 0 d := rfl

/-- A barrier signal to `p`, handing over `payOf … d`. -/
theorem signal_step {p : Dev nD} {d : Bool} {n : ℕ} (hc : payCell c n = barCell p) (ha : payAmt n = 1)
    {α : Type} {Q : α → sProp 𝕄} {k : PUnit → Prog (TpuEff nD τ sig (Elt F) Λ₀ .tc) α} :
    iprop(invs wq wo K ∗ owed (F := F) c (n + 1) ∗ dutyTok ER (barCell p) 0 d ∗ payOf wq wo (.reg barS) p d ∗ reached ER (barCell p) 0)
      ⊢ iprop((owed c n -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc p) barS 1) k) Q) := by
  unfold owed
  iintro ⟨#HI, ⟨%W, HO⟩, Ht, Hp, #Hr⟩ Hk
  iapply (Rounds.wp_signal 𝒱₀ ER (rd wq wo) (c : Thread nD τ) none (dst := (p : Thread nD τ)) (sem := barS) (r := 0) (d := d) (κ := K (barCell p))
      (mem_bar wq wo p d) rfl () (O₀ := Ow c (n + 1)) (Ow c n) (by show Ow c n + _ = _; rw [hc, ha]; rfl) (W := W)) $$ [HO Ht Hp]
  · isplitr; · iapply (inv_bar wq wo K p); iexact HI
    isplitl [HO]; · iexact HO
    isplitl [Ht]; · iexact Ht
    isplitl [Hp]; · iapply (Entails.of_eq (payload_eq wq wo p _ d)); iexact Hp
    iexact Hr
  iintro HO
  iapply Hk
  iexists W; iexact HO

/-- The wait for both barrier signals. -/
theorem bar_step {n : ℕ} (hl : ∀ j < n, lvOf (.reg barS) < lvOf (payCell c j).2)
    {α : Type} {Q : α → sProp 𝕄} {k : PUnit → Prog (TpuEff nD τ sig (Elt F) Λ₀ .tc) α} :
    iprop(invs wq wo K ∗ levAts L lv ∗ cred (tallyAt (barCell c) () 2) ∗ owed (F := F) c n ∗ atPos ER (barCell c) 0 ∅ 0)
      ⊢ iprop((owed c n ∗ atPos ER (barCell c) (0 + 1) ∅ 0 ∗ barF c ∗ barT c -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 2) k) Q) := by
  unfold owed
  iintro ⟨#HI, #Hlev, Hc, ⟨%W, HO⟩, Hat⟩ Hk
  iapply (Rounds.wp_wait_rest_token 𝒱₀ ER (rd wq wo) (c : Thread nD τ) none (κ := K (barCell c))
      (wpE_semWait_eq 𝒱₀ (c : Thread nD τ) none Set.univ) (Set.mem_univ _) () (O := Ow c n) (W := W) (R := 0) (m := 0) (T := ∅)
      ((Nat.zero_add 2).trans (expect_bar wq wo c).symm)) $$ [Hc HO Hat]
  · isplitr; · iapply (inv_bar wq wo K c); iexact HI
    isplitl [Hc]; · iexact Hc
    isplitl [HO]; · iexact HO
    isplitr; · iapply (mayWait c (.reg barS) n hl); iexact Hlev
    iexact Hat
  iintro ⟨HO, Hat, -, Hpay⟩
  ihave Hp := (Entails.of_eq (rest_bar wq wo c)) $$ Hpay
  iapply Hk
  isplitl [HO]; · iexists _; iexact HO
  isplitl [Hat]; · iexact Hat
  iexact Hp

/-- The wait for a copy's cell: its payload comes with it. -/
theorem wait_step {m : ℕ} (h : m < 18) (h6 : 6 ≤ m) {n : ℕ} (hl : ∀ j < n, lvOf (.dma (dq m h)) < lvOf (payCell c j).2)
    {s : Shape} {e : EltTy} {src dst : Memref sig .tc .vmem s e} {hx : src.view.WordExact} {hy : dst.view.WordExact}
    (hN : dst.view.dmaCredit = amountOf (.dma (dq m h)))
    {α : Type} {Q : α → sProp 𝕄} {k : PUnit → Prog (TpuEff nD τ sig (Elt F) Λ₀ .tc) α} :
    iprop(invs wq wo K ∗ levAts L lv ∗ cred (tallyAt (cell c m h) () (amountOf (.dma (dq m h)))) ∗ owed (F := F) c n ∗ atPos ER (cell c m h) 0 ∅ 0)
      ⊢ iprop((owed c n ∗ atPos ER (cell c m h) (0 + 1) ∅ 0 ∗ dmaPay wq wo m c -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dq m h) src dst hx hy) k) Q) := by
  unfold owed
  iintro ⟨#HI, #Hlev, Hc, ⟨%W, HO⟩, Hat⟩ Hk
  iapply (Rounds.wp_wait_rest_token 𝒱₀ ER (rd wq wo) (c : Thread nD τ) none (κ := K (cell c m h))
      (wpE_waitDma2_eq 𝒱₀ (c : Thread nD τ) none Set.univ) (Set.mem_univ _) () (O := Ow c n) (W := W) (R := 0) (m := 0) (T := ∅)
      ((Nat.zero_add _).trans (hN.trans (expect_dma wq wo c h h6).symm))) $$ [Hc HO Hat]
  · isplitr; · iapply (inv_dma wq wo K c h h6); iexact HI
    isplitl [Hc]; · rw [hN]; iexact Hc
    isplitl [HO]; · iexact HO
    isplitr; · iapply (mayWait c (.dma (dq m h)) n hl); iexact Hlev
    iexact Hat
  iintro ⟨HO, Hat, -, Hpay⟩
  ihave Hp := (Entails.of_eq (rest_dma wq wo c h h6)) $$ Hpay
  iapply Hk
  isplitl [HO]; · iexists _; iexact HO
  isplitl [Hat]; · iexact Hat
  iexact Hp

omit [FloatOps F] in
/-- What a copied `Wq` slot lands: the block of the device that the target's slot is for. -/
theorem land_wq {p : Dev nD} {i j : ℕ} (hi : In 512 256 i) (hj : In 512 256 j) (hd : dv c i = dv p j)
    (fd : Buf (Elt F) (wqM.view.loc (p : Thread nD τ))) :
    ∀ x ∈ (wqV j hj).view.set, (wqV j hj).view.write (Elt F) fd ((wqV i hi).view.read (Elt F) (wqAll wq c)) Finset.univ x = wqAll wq p x :=
  slot_land (a := 512) (b := 256) wqM wqM hi hj _ (wqAll wq c) fd (wqAll wq p) fun x y => by
    show wq (dv c i) (ix2 x y) = wq (dv p j) (ix2 x y); rw [hd]
omit [FloatOps F] in
theorem land_wo {p : Dev nD} {i j : ℕ} (hi : In 256 512 i) (hj : In 256 512 j) (hd : dv c i = dv p j)
    (fd : Buf (Elt F) (woM.view.loc (p : Thread nD τ))) :
    ∀ x ∈ (woV j hj).view.set, (woV j hj).view.write (Elt F) fd ((woV i hi).view.read (Elt F) (woAll wo c)) Finset.univ x = woAll wo p x :=
  slot_land (a := 256) (b := 512) woM woM hi hj _ (woAll wo c) fd (woAll wo p) fun x y => by
    show wo (dv c i) (ix2 x y) = wo (dv p j) (ix2 x y); rw [hd]

/-- A copy of `Wq` slot `i` into slot `j` of `p`. -/
theorem send_wq {p : Dev nD} {i j : ℕ} {hi : In 512 256 i} {hj : In 512 256 j} {q : PosShare TreeShare} {s r : ℕ} {hs : s < 18} {hr : r < 18}
    (hs6 : 6 ≤ s) (hs12 : s < 12) (hr6 : 6 ≤ r) (hr12 : r < 12) (hd : dv c i = dv p j) {n : ℕ}
    (hc : payCell c n = cell p r hr) (ha : payAmt n = Nq)
    (hpS : dmaPay (F := F) wq wo s c = wqPt q i hi c (wqAll wq c)) (hpR : dmaPay (F := F) wq wo r p = wqPt fullShare j hj p (wqAll wq p))
    {hsc} {hsrc} {hdst} {hsem} {α : Type} {Q : α → sProp 𝕄} {k : PUnit → Prog (TpuEff nD τ sig (Elt F) Λ₀ .tc) α} :
    iprop(invs wq wo K ∗ wqPt q i hi c (wqAll wq c) ∗ (∃ f, wqPt fullShare j hj p f) ∗ owed (F := F) c (n + 1)
        ∗ dutyTok ER (cell c s hs) 0 true ∗ reached ER (cell c s hs) 0 ∗ dutyTok ER (cell p r hr) 0 true ∗ reached ER (cell p r hr) 0)
      ⊢ iprop((cred (tallyAt (cell c s hs) () Nq) ∗ owed c n -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (wqV i hi) (.remote (Dev.tc p) (wqV j hj) (.dma (dq s hs)) hsc) (.dma (dq r hr)) hsrc hdst hsem) k) Q) := by
  unfold owed wqPt
  iintro ⟨#HI, Hsrc, ⟨%fd, Hdst⟩, ⟨%W, HO⟩, HtS, #HrS, HtR, #HrR⟩ Hk
  iapply (Rounds.wp_send_pointsTo 𝒱₀ ER (rd wq wo) (c : Thread nD τ) none (c' := (p : Thread nD τ)) (src := wqV i hi) (dst := wqV j hj)
      (sS := .dma (dq s hs)) (sem := .dma (dq r hr)) (q := q) (fs := wqAll wq c) (κ₁ := K (cell c s hs)) (κ₂ := K (cell p r hr))
      (r₁ := 0) (r₂ := 0) (d₁ := true) (d₂ := true) (fd := fd) (mem_dma wq wo c hs hs6) (mem_dma wq wo p hr hr6)
      () () Nq rfl (amount_q wq wo c hs hs12 true) (amount_q wq wo p hr hr12 true) (O₀ := Ow c (n + 1)) (Ow c n) (by show Ow c n + _ = _; rw [hc, ha]) (W := W)
      (Entails.of_eq hpS.symm)
      (by show _ ⊢ dmaPay wq wo r p
          rw [hpR]; unfold wqPt; rw [pointsTo_congr (land_wq (F := F) wq hi hj hd fd)])) $$ [Hsrc Hdst HO HtS HtR]
  · isplitr; · iapply (inv_dma wq wo K c hs hs6); iexact HI
    isplitr; · iapply (inv_dma wq wo K p hr hr6); iexact HI
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists W; iexact HO

/-- A copy of `Wo` slot `i` into slot `j` of `p`. -/
theorem send_wo {p : Dev nD} {i j : ℕ} {hi : In 256 512 i} {hj : In 256 512 j} {q : PosShare TreeShare} {s r : ℕ} {hs : s < 18} {hr : r < 18}
    (hs12 : ¬ s < 12) (hr12 : ¬ r < 12) (hd : dv c i = dv p j) {n : ℕ}
    (hc : payCell c n = cell p r hr) (ha : payAmt n = No)
    (hpS : dmaPay (F := F) wq wo s c = woPt q i hi c (woAll wo c)) (hpR : dmaPay (F := F) wq wo r p = woPt fullShare j hj p (woAll wo p))
    {hsc} {hsrc} {hdst} {hsem} {α : Type} {Q : α → sProp 𝕄} {k : PUnit → Prog (TpuEff nD τ sig (Elt F) Λ₀ .tc) α} :
    iprop(invs wq wo K ∗ woPt q i hi c (woAll wo c) ∗ (∃ f, woPt fullShare j hj p f) ∗ owed (F := F) c (n + 1)
        ∗ dutyTok ER (cell c s hs) 0 true ∗ reached ER (cell c s hs) 0 ∗ dutyTok ER (cell p r hr) 0 true ∗ reached ER (cell p r hr) 0)
      ⊢ iprop((cred (tallyAt (cell c s hs) () No) ∗ owed c n -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (woV i hi) (.remote (Dev.tc p) (woV j hj) (.dma (dq s hs)) hsc) (.dma (dq r hr)) hsrc hdst hsem) k) Q) := by
  unfold owed woPt
  iintro ⟨#HI, Hsrc, ⟨%fd, Hdst⟩, ⟨%W, HO⟩, HtS, #HrS, HtR, #HrR⟩ Hk
  iapply (Rounds.wp_send_pointsTo 𝒱₀ ER (rd wq wo) (c : Thread nD τ) none (c' := (p : Thread nD τ)) (src := woV i hi) (dst := woV j hj)
      (sS := .dma (dq s hs)) (sem := .dma (dq r hr)) (q := q) (fs := woAll wo c) (κ₁ := K (cell c s hs)) (κ₂ := K (cell p r hr))
      (r₁ := 0) (r₂ := 0) (d₁ := true) (d₂ := true) (fd := fd) (mem_dma wq wo c hs (by omega)) (mem_dma wq wo p hr (by omega))
      () () No rfl (amount_o wq wo c hs hs12 true) (amount_o wq wo p hr hr12 true) (O₀ := Ow c (n + 1)) (Ow c n) (by show Ow c n + _ = _; rw [hc, ha]) (W := W)
      (Entails.of_eq hpS.symm)
      (by show _ ⊢ dmaPay wq wo r p
          rw [hpR]; unfold woPt; rw [pointsTo_congr (land_wo (F := F) wo hi hj hd fd)])) $$ [Hsrc Hdst HO HtS HtR]
  · isplitr; · iapply (inv_dma wq wo K c hs (by omega)); iexact HI
    isplitr; · iapply (inv_dma wq wo K p hr (by omega)); iexact HI
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists W; iexact HO

end Cert.KernelIdeal.Ring
-- ==== Proof.Block.lean ====
/-
What the kernel computes, named: the attention of one head over one batch row (`attn`), the contribution of one device's
weight block (`blk`), and the sum of the four (`total`). The kernel's printed pieces are these by unfolding.
-/
module

public import proofs.«01_k».proof.Proof.Ring

@[expose] public section

noncomputable section

namespace Cert.KernelIdeal.Ring

open Cert.KernelIdeal Cert.KernelIdeal.Gen Cert.Slots
open Idealize.ShloMosaic Idealize.ShloMosaic.ValueIdx
open Idealize.ShloMosaic.TcCoe

variable {F : FTy → Type} [FloatOps F]

abbrev xM : Memref sig .tc .vmem S256x512 .bf16 := Memref.whole cc0_stg0_0
abbrev wqS : Memref sig .tc .vmem S512x256 .bf16 := Memref.whole cc0_stg1_0
abbrev ktM : Memref sig .tc .vmem S2x64x2048 .bf16 := Memref.whole cc0_stg2_0
abbrev vM : Memref sig .tc .vmem S2x128x1024 .bf16 := Memref.whole cc0_stg3_0
abbrev woS : Memref sig .tc .vmem S256x512 .bf16 := Memref.whole cc0_stg4_0
abbrev oM : Memref sig .tc .vmem S2x128x512 .bf16 := Memref.whole cc0_stg5_0

theorem inK {b n : ℕ} (hb : b < 2) (hn : n + 128 ≤ 2048) : ∀ a, (![b, 0, n] : Fin 3 → Nat) a + S1x64x128.size a ≤ S2x64x2048.size a := fun a =>
  match a with | 0 => by show b + 1 ≤ 2; omega | 1 => by show 0 + 64 ≤ 64; omega | 2 => hn
theorem inV {b n : ℕ} (hb : b < 2) (hn : n + 64 ≤ 1024) : ∀ a, (![b, 0, n] : Fin 3 → Nat) a + S1x128x64.size a ≤ S2x128x1024.size a := fun a =>
  match a with | 0 => by show b + 1 ≤ 2; omega | 1 => by show 0 + 128 ≤ 128; omega | 2 => hn
theorem slc {b h : ℕ} (hb : b < 2) (hh : h < 4) : S256x256.Slices ![128 * b, 64 * h] S128x64 :=
  ⟨rfl, fun a => match a with | ⟨0, _⟩ => (by show 128 * b + 128 ≤ 256; omega) | ⟨1, _⟩ => (by show 64 * h + 64 ≤ 256; omega)⟩

/-- The keys of batch row `b` from column `n` on, and the values. -/
abbrev rK (KT : Vec F S2x64x2048 .bf16) (b n : ℕ) (h : ∀ a, (![b, 0, n] : Fin 3 → Nat) a + S1x64x128.size a ≤ S2x64x2048.size a) : Vec F S1x64x128 .bf16 :=
  ktM.view.readAt (Elt F) (Rect.unit (s := S2x64x2048) ![b, 0, n] S1x64x128.size h).toLoadRect KT
abbrev rV (V : Vec F S2x128x1024 .bf16) (b n : ℕ) (h : ∀ a, (![b, 0, n] : Fin 3 → Nat) a + S1x128x64.size a ≤ S2x128x1024.size a) : Vec F S1x128x64 .bf16 :=
  vM.view.readAt (Elt F) (Rect.unit (s := S2x128x1024) ![b, 0, n] S1x128x64.size h).toLoadRect V

/-- One head over one batch row: the exponentials of the scores, applied to the values and divided by their sum. -/
def attn (q : FVec F S256x256 .f32) (b h : ℕ) (hs : S256x256.Slices ![128 * b, 64 * h] S128x64) (kt : Vec F S1x64x128 .bf16) (v : Vec F S1x128x64 .bf16) :
    FVec F S128x64 .f32 :=
  let w : FVec F S128x128 .f32 := exp (matmul dot_S128x64_S64x128_S128x128_1_0_0_1_n_n none
    (truncf .bf16 (extractStridedSlice S128x64 ![128 * b, 64 * h] q hs) bitsLt_bf16_f32 : FVec F S128x64 .bf16)
    (shapeCast S64x128 kt shapeCasts_S1x64x128_S64x128 : FVec F S64x128 .bf16) (constant S128x128 .f32 0x00000000#32))
  divf (matmul dot_S128x128_S128x64_S128x64_1_0_0_1_n_n none (truncf .bf16 w bitsLt_bf16_f32 : FVec F S128x128 .bf16)
      (shapeCast S128x64 v shapeCasts_S1x128x64_S128x64 : FVec F S128x64 .bf16) (constant S128x64 .f32 0x00000000#32))
    (broadcastTo S128x64 (shapeCast S128x1 (multiReduction .add [1] S128 w 0x00000000#32 reduces_S128x128_S128 (.inl rfl) rfl : FVec F S128 .f32)
      shapeCasts_S128_S128x1) broadcasts_S128x1_S128x64)

/-- Head `h` of weight block `d`, over batch row `b`. -/
def head (q : FVec F S256x256 .f32) (KT : Vec F S2x64x2048 .bf16) (V : Vec F S2x128x1024 .bf16) (d b h : ℕ) (hd : d < 4) (hb : b < 2) (hh : h < 4) :
    FVec F S128x64 .f32 :=
  attn q b h (slc hb hh) (rK KT b ((d * 4 + h) * 128) (inK hb (by omega))) (rV V b ((d * 4 + h) * 64) (inV hb (by omega)))

/-- The four heads of a block side by side, over batch row `b`. -/
def heads (q : FVec F S256x256 .f32) (KT : Vec F S2x64x2048 .bf16) (V : Vec F S2x128x1024 .bf16) (d b : ℕ) (hd : d < 4) (hb : b < 2) : FVec F S128x256 .f32 :=
  concatenate S128x256 1 [⟨S128x64, head q KT V d b 0 hd hb (by decide)⟩, ⟨S128x64, head q KT V d b 1 hd hb (by decide)⟩,
    ⟨S128x64, head q KT V d b 2 hd hb (by decide)⟩, ⟨S128x64, head q KT V d b 3 hd hb (by decide)⟩] concatenates_S128x64_S128x64_S128x64_S128x64_S128x256_d1

/-- The queries of a weight block. -/
def qOf (X : Vec F S256x512 .bf16) (Q : Vec F S1x512x256 .bf16) : FVec F S256x256 .f32 := k0_pay3 X Q

/-- What weight block `d` contributes: its heads over both batch rows, times the block of `Wo`. -/
def blk (X : Vec F S256x512 .bf16) (KT : Vec F S2x64x2048 .bf16) (V : Vec F S2x128x1024 .bf16) (d : ℕ) (hd : d < 4)
    (Q : Vec F S1x512x256 .bf16) (O : Vec F S1x256x512 .bf16) : FVec F S256x512 .f32 :=
  matmul dot_S256x256_S256x512_S256x512_1_0_0_1_n_n none
    (truncf .bf16 (concatenate S256x256 0 [⟨S128x256, heads (qOf X Q) KT V d 0 hd (by decide)⟩, ⟨S128x256, heads (qOf X Q) KT V d 1 hd (by decide)⟩]
      concatenates_S128x256_S128x256_S256x256_d0 : FVec F S256x256 .f32) bitsLt_bf16_f32 : FVec F S256x256 .bf16)
    (shapeCast S256x512 O shapeCasts_S1x256x512_S256x512 : FVec F S256x512 .bf16) (constant S256x512 .f32 0x00000000#32)

/-- The sum of the four blocks' contributions, in the kernel's order: its own, the previous device's, the next one's, the opposite one's. -/
def total (X : Vec F S256x512 .bf16) (KT : Vec F S2x64x2048 .bf16) (V : Vec F S2x128x1024 .bf16)
    (Q : ℕ → Vec F S1x512x256 .bf16) (O : ℕ → Vec F S1x256x512 .bf16) : FVec F S256x512 .f32 :=
  addf (addf (addf (blk X KT V 0 (by decide) (Q 0) (O 0)) (blk X KT V 3 (by decide) (Q 3) (O 3))) (blk X KT V 1 (by decide) (Q 1) (O 1)))
    (blk X KT V 2 (by decide) (Q 2) (O 2))

/-! ## The kernel's pieces -/

section Pieces
variable (X : Vec F S256x512 .bf16) (KT : Vec F S2x64x2048 .bf16) (V : Vec F S2x128x1024 .bf16) (Q : Vec F S1x512x256 .bf16) (O : Vec F S1x256x512 .bf16)
  (acc : FVec F S256x512 .f32)

theorem blk0_eq :
    k0_pay18 (k0_pay3 X Q)
      (k0_pay12 (k0_pay4 X Q (rK KT 0 0 inb_S2x64x2048_S1x64x128_0_0_0) (rV V 0 0 inb_S2x128x1024_S1x128x64_0_0_0))
        (k0_pay7 (k0_pay5 X Q) (k0_pay6 (rK KT 0 128 inb_S2x64x2048_S1x64x128_0_0_128)) (rV V 0 64 inb_S2x128x1024_S1x128x64_0_0_64))
        (k0_pay8 (k0_pay3 X Q) (rK KT 0 256 inb_S2x64x2048_S1x64x128_0_0_256) (rV V 0 128 inb_S2x128x1024_S1x128x64_0_0_128))
        (k0_pay10 (k0_pay3 X Q) (rK KT 0 384 inb_S2x64x2048_S1x64x128_0_0_384) (rV V 0 192 inb_S2x128x1024_S1x128x64_0_0_192))
        (k0_pay11 (k0_pay3 X Q) (rK KT 0 384 inb_S2x64x2048_S1x64x128_0_0_384)))
      (k0_pay13 (k0_pay3 X Q) (rK KT 1 0 inb_S2x64x2048_S1x64x128_1_0_0) (rV V 1 0 inb_S2x128x1024_S1x128x64_1_0_0))
      (k0_pay14 (k0_pay3 X Q) (rK KT 1 128 inb_S2x64x2048_S1x64x128_1_0_128) (rV V 1 64 inb_S2x128x1024_S1x128x64_1_0_64))
      (k0_pay15 (k0_pay3 X Q)) (k0_pay16 (rK KT 1 256 inb_S2x64x2048_S1x64x128_1_0_256)) (k0_pay17 (rV V 1 128 inb_S2x128x1024_S1x128x64_1_0_128))
      (rK KT 1 384 inb_S2x64x2048_S1x64x128_1_0_384) (rV V 1 192 inb_S2x128x1024_S1x128x64_1_0_192) O
    = blk X KT V 0 (by decide) Q O := rfl

theorem blk3_eq :
    k0_pay32 acc (k0_pay19 X Q)
      (k0_pay27 (k0_pay20 X Q (rK KT 0 1536 inb_S2x64x2048_S1x64x128_0_0_1536) (rV V 0 768 inb_S2x128x1024_S1x128x64_0_0_768))
        (k0_pay22 (k0_pay21 X Q) (rK KT 0 1664 inb_S2x64x2048_S1x64x128_0_0_1664) (rV V 0 832 inb_S2x128x1024_S1x128x64_0_0_832))
        (k0_pay23 (k0_pay19 X Q) (rK KT 0 1792 inb_S2x64x2048_S1x64x128_0_0_1792) (rV V 0 896 inb_S2x128x1024_S1x128x64_0_0_896))
        (k0_pay24 (rV V 0 960 inb_S2x128x1024_S1x128x64_0_0_960)) (k0_pay25 (k0_pay19 X Q) (rK KT 0 1920 inb_S2x64x2048_S1x64x128_0_0_1920))
        (k0_pay26 (k0_pay19 X Q) (rK KT 0 1920 inb_S2x64x2048_S1x64x128_0_0_1920)) (constant S128x64 .f32 0x00000000#32))
      (k0_pay28 (k0_pay19 X Q) (rK KT 1 1536 inb_S2x64x2048_S1x64x128_1_0_1536) (rV V 1 768 inb_S2x128x1024_S1x128x64_1_0_768))
      (k0_pay29 (k0_pay19 X Q) (rK KT 1 1664 inb_S2x64x2048_S1x64x128_1_0_1664) (rV V 1 832 inb_S2x128x1024_S1x128x64_1_0_832))
      (k0_pay30 (k0_pay19 X Q)) (k0_pay31 (rK KT 1 1792 inb_S2x64x2048_S1x64x128_1_0_1792)) (rV V 1 896 inb_S2x128x1024_S1x128x64_1_0_896)
      (rK KT 1 1920 inb_S2x64x2048_S1x64x128_1_0_1920) (rV V 1 960 inb_S2x128x1024_S1x128x64_1_0_960) O
    = addf acc (blk X KT V 3 (by decide) Q O) := rfl

theorem blk1_eq :
    k0_pay46 acc (k0_pay33 X Q)
      (k0_pay38 (k0_pay33 X Q) (k0_pay34 X Q (rK KT 0 512 inb_S2x64x2048_S1x64x128_0_0_512) (rV V 0 256 inb_S2x128x1024_S1x128x64_0_0_256)) (k0_pay35 (rV V 0 320 inb_S2x128x1024_S1x128x64_0_0_320))
        (k0_pay36 X Q (rK KT 0 640 inb_S2x64x2048_S1x64x128_0_0_640)) (k0_pay37 X Q (rK KT 0 640 inb_S2x64x2048_S1x64x128_0_0_640)) (constant S128x64 .f32 0x00000000#32)
        (rK KT 0 768 inb_S2x64x2048_S1x64x128_0_0_768) (rV V 0 384 inb_S2x128x1024_S1x128x64_0_0_384) (rK KT 0 896 inb_S2x64x2048_S1x64x128_0_0_896)
        (rV V 0 448 inb_S2x128x1024_S1x128x64_0_0_448))
      (k0_pay41 (k0_pay39 (k0_pay33 X Q)) (k0_pay40 (rK KT 1 512 inb_S2x64x2048_S1x64x128_1_0_512)) (rV V 1 256 inb_S2x128x1024_S1x128x64_1_0_256))
      (k0_pay42 (k0_pay33 X Q) (rK KT 1 640 inb_S2x64x2048_S1x64x128_1_0_640) (rV V 1 320 inb_S2x128x1024_S1x128x64_1_0_320))
      (k0_pay44 (k0_pay33 X Q) (rK KT 1 768 inb_S2x64x2048_S1x64x128_1_0_768) (rV V 1 384 inb_S2x128x1024_S1x128x64_1_0_384))
      (k0_pay45 (k0_pay33 X Q) (rK KT 1 768 inb_S2x64x2048_S1x64x128_1_0_768)) (rK KT 1 896 inb_S2x64x2048_S1x64x128_1_0_896)
      (rV V 1 448 inb_S2x128x1024_S1x128x64_1_0_448) O
    = addf acc (blk X KT V 1 (by decide) Q O) := rfl

theorem blk2_eq :
    k0_pay59 acc (k0_pay47 X Q)
      (k0_pay52 (k0_pay47 X Q) (k0_pay48 X Q (rK KT 0 1024 inb_S2x64x2048_S1x64x128_0_0_1024) (rV V 0 512 inb_S2x128x1024_S1x128x64_0_0_512)) (k0_pay49 X Q)
        (k0_pay50 (rK KT 0 1152 inb_S2x64x2048_S1x64x128_0_0_1152)) (k0_pay51 (rV V 0 576 inb_S2x128x1024_S1x128x64_0_0_576))
        (rK KT 0 1280 inb_S2x64x2048_S1x64x128_0_0_1280) (rV V 0 640 inb_S2x128x1024_S1x128x64_0_0_640) (rK KT 0 1408 inb_S2x64x2048_S1x64x128_0_0_1408)
        (rV V 0 704 inb_S2x128x1024_S1x128x64_0_0_704))
      (k0_pay54 (k0_pay53 (k0_pay47 X Q)) (rK KT 1 1024 inb_S2x64x2048_S1x64x128_1_0_1024) (rV V 1 512 inb_S2x128x1024_S1x128x64_1_0_512))
      (k0_pay55 (k0_pay47 X Q) (rK KT 1 1152 inb_S2x64x2048_S1x64x128_1_0_1152) (rV V 1 576 inb_S2x128x1024_S1x128x64_1_0_576))
      (k0_pay56 (rV V 1 640 inb_S2x128x1024_S1x128x64_1_0_640)) (k0_pay57 (k0_pay47 X Q) (rK KT 1 1280 inb_S2x64x2048_S1x64x128_1_0_1280))
      (k0_pay58 (k0_pay47 X Q) (rK KT 1 1280 inb_S2x64x2048_S1x64x128_1_0_1280)) (rK KT 1 1408 inb_S2x64x2048_S1x64x128_1_0_1408)
      (rV V 1 704 inb_S2x128x1024_S1x128x64_1_0_704) O
    = addf acc (blk X KT V 2 (by decide) Q O) := rfl

end Pieces

/-- Row `128 b + r` of the sum. -/
abbrev row (b : Fin 2) (r : Fin 128) : Fin 256 := ⟨128 * b.val + r.val, by omega⟩

/-- The result by batch row: rows `128 b …` of the sum, rounded. -/
def outV (T : FVec F S256x512 .f32) : Vec F S2x128x512 .bf16 := fun i =>
  (truncf .bf16 T bitsLt_bf16_f32 : FVec F S256x512 .bf16) (ix2 (row (i 0) (i 1)) (i 2))

/-- The two pieces that the kernel stores, by coordinates. -/
theorem cut0 (T : FVec F S256x512 .f32) (z : Fin 1) (x : Fin 128) (y : Fin 512) :
    (shapeCast S1x128x512 (truncf .bf16 (extractStridedSlice S128x512 ![0, 0] T slices_S256x512_o0_0_S128x512) bitsLt_bf16_f32 : FVec F S128x512 .bf16)
      shapeCasts_S128x512_S1x128x512 : FVec F S1x128x512 .bf16) (ix3 z x y) = outV T (ix3 (0 : Fin 2) x y) :=
  (shapeCast_ab_1ab_apply _ _ _ _ _).trans
    (congrArg (FloatOps.truncf _ _) (extractStridedSlice_apply ![0, 0] T _ (ix2 x y) (ix2 (row 0 x) y)
      (fun a => match a with
        | ⟨0, _⟩ => rfl
        | ⟨1, _⟩ => (Nat.zero_add _).symm)))
theorem cut1 (T : FVec F S256x512 .f32) (z : Fin 1) (x : Fin 128) (y : Fin 512) :
    (shapeCast S1x128x512 (truncf .bf16 (extractStridedSlice S128x512 ![128, 0] T slices_S256x512_o128_0_S128x512) bitsLt_bf16_f32 : FVec F S128x512 .bf16)
      shapeCasts_S128x512_S1x128x512 : FVec F S1x128x512 .bf16) (ix3 z x y) = outV T (ix3 (1 : Fin 2) x y) :=
  (shapeCast_ab_1ab_apply _ _ _ _ _).trans
    (congrArg (FloatOps.truncf _ _) (extractStridedSlice_apply ![128, 0] T _ (ix2 x y) (ix2 (row 1 x) y)
      (fun a => match a with
        | ⟨0, _⟩ => rfl
        | ⟨1, _⟩ => (Nat.zero_add _).symm)))

end Cert.KernelIdeal.Ring
-- ==== Proof.Parts.lean ====
/-
What the kernel's loads read, and the values of those of its parts that only load: each such part, run with the inputs' staging
buffers and a share of the scratch slot that it reads in hand, gives them back and yields its payloads of the values read.
-/
module

public import proofs.«01_k».proof.Proof.Steps
public import proofs.«01_k».proof.Proof.Block

@[expose] public section

noncomputable section

namespace Cert.KernelIdeal.Ring

open Cert.KernelIdeal Cert.KernelIdeal.Gen Cert.Slots
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝔓" => Prog (TpuEff nD τ sig (Elt F) Λ₀ Proc.tc)

/-- Holding `R`, the program `p` runs to the value `v` and gives `R` back. -/
def Reads (R : sProp 𝕄) (c : Dev nD) {α : Type} (p : 𝔓 α) (v : α) : Prop :=
  ∀ Q : α → sProp 𝕄, iprop(R ∗ (R -∗ Q v)) ⊢ wp frame (wpE (defs₀ (F := F)) 𝒱₀ (c : Thread nD τ) none) Set.univ p Q

theorem Reads.ret {R : sProp 𝕄} {c : Dev nD} {α : Type} {v : α} : Reads R c (.ret v : 𝔓 α) v := fun Q => by
  rw [wp_ret]; iintro ⟨HR, Hk⟩; imodintro; iapply Hk; iexact HR

/-- A load whose value `a` the resource `R` determines. -/
theorem Reads.step {R : sProp 𝕄} {c : Dev nD} {α : Type} {v : α} {p : 𝔓 α} {k : 𝔓 α}
    (hp : ∀ Q : α → sProp 𝕄, iprop(R ⊢ (R -∗ wp frame (wpE (defs₀ (F := F)) 𝒱₀ (c : Thread nD τ) none) Set.univ k Q)
      -∗ wp frame (wpE (defs₀ (F := F)) 𝒱₀ (c : Thread nD τ) none) Set.univ p Q)) (hk : Reads R c k v) : Reads R c p v := fun Q => by
  iintro ⟨HR, Hk⟩
  iapply (hp Q) $$ HR
  iintro HR
  iapply (hk Q)
  isplitl [HR]; · iexact HR
  iexact Hk

/-- The staged activations, keys and values. -/
def ins (c : Dev nD) (X : Vec F S256x512 .bf16) (KT : Vec F S2x64x2048 .bf16) (V : Vec F S2x128x1024 .bf16) : sProp 𝕄 :=
  iprop((xM.view.loc (c : Thread nD τ) ↦{fullShare} X) ∗ (ktM.view.loc (c : Thread nD τ) ↦{fullShare} KT) ∗ (vM.view.loc (c : Thread nD τ) ↦{fullShare} V))

/-- A block as the box of a slot holds it. -/
def up {a b : ℕ} {α : Type} (v : (S0 a b).Idx → α) : (Cert.Slots.S1 a b).Idx → α := fun i => v (ix2 (i 1) (i 2))

theorem zz : (![0, 0] : Fin 2 → ℕ) = fun _ => 0 := funext fun a => by fin_cases a <;> rfl

variable {c : Dev nD} {X : Vec F S256x512 .bf16} {KT : Vec F S2x64x2048 .bf16} {V : Vec F S2x128x1024 .bf16}

section Loads
variable {α : Type}

theorem load_x {Q : α → sProp 𝕄} {k : Vec F S256x512 .bf16 → 𝔓 α} {h} {hl} :
    ins c X KT V ⊢ iprop((ins c X KT V -∗ wp frame (wpE (defs₀ (F := F)) 𝒱₀ (c : Thread nD τ) none) Set.univ (k X) Q)
      -∗ wp frame (wpE (defs₀ (F := F)) 𝒱₀ (c : Thread nD τ) none) Set.univ (.op (.load xM (Rect.unit (s := S256x512) ![0, 0] S256x512.size h).toLoadRect hl) k) Q) := by
  unfold ins
  iintro ⟨Hx, Hk, Hv⟩ HK
  iapply (wp_load 𝒱₀ (c : Thread nD τ) none Set.univ (m := xM) (Finset.subset_univ _)) $$ Hx
  iintro Hx
  rw [show xM.view.readAt (Elt F) (Rect.unit (s := S256x512) ![0, 0] S256x512.size h).toLoadRect X = X from
    Memref.readAt_unit_zero (Elt F) cc0_stg0_0 zz _ _]
  iapply HK
  isplitl [Hx]; · iexact Hx
  isplitl [Hk]; · iexact Hk
  iexact Hv

theorem load_k {Q : α → sProp 𝕄} {b n : ℕ} {k : Vec F S1x64x128 .bf16 → 𝔓 α} {h} {hl} :
    ins c X KT V ⊢ iprop((ins c X KT V -∗ wp frame (wpE (defs₀ (F := F)) 𝒱₀ (c : Thread nD τ) none) Set.univ (k (rK KT b n h)) Q)
      -∗ wp frame (wpE (defs₀ (F := F)) 𝒱₀ (c : Thread nD τ) none) Set.univ (.op (.load ktM (Rect.unit (s := S2x64x2048) ![b, 0, n] S1x64x128.size h).toLoadRect hl) k) Q) := by
  unfold ins
  iintro ⟨Hx, Hk, Hv⟩ HK
  iapply (wp_load 𝒱₀ (c : Thread nD τ) none Set.univ (m := ktM) (Finset.subset_univ _)) $$ Hk
  iintro Hk
  iapply HK
  isplitl [Hx]; · iexact Hx
  isplitl [Hk]; · iexact Hk
  iexact Hv

theorem load_v {Q : α → sProp 𝕄} {b n : ℕ} {k : Vec F S1x128x64 .bf16 → 𝔓 α} {h} {hl} :
    ins c X KT V ⊢ iprop((ins c X KT V -∗ wp frame (wpE (defs₀ (F := F)) 𝒱₀ (c : Thread nD τ) none) Set.univ (k (rV V b n h)) Q)
      -∗ wp frame (wpE (defs₀ (F := F)) 𝒱₀ (c : Thread nD τ) none) Set.univ (.op (.load vM (Rect.unit (s := S2x128x1024) ![b, 0, n] S1x128x64.size h).toLoadRect hl) k) Q) := by
  unfold ins
  iintro ⟨Hx, Hk, Hv⟩ HK
  iapply (wp_load 𝒱₀ (c : Thread nD τ) none Set.univ (m := vM) (Finset.subset_univ _)) $$ Hv
  iintro Hv
  iapply HK
  isplitl [Hx]; · iexact Hx
  isplitl [Hk]; · iexact Hk
  iexact Hv

variable {wq : Dev nD → Vec F S512x256 .bf16} {wo : Dev nD → Vec F S256x512 .bf16} {q : PosShare TreeShare}

theorem load_wq {Q : α → sProp 𝕄} {i : ℕ} {k : Vec F S1x512x256 .bf16 → 𝔓 α} {h : In 512 256 i} {hl} :
    wqPt q i h c (wqAll wq c) ⊢ iprop((wqPt q i h c (wqAll wq c) -∗ wp frame (wpE (defs₀ (F := F)) 𝒱₀ (c : Thread nD τ) none) Set.univ (k (up (wq (dv c i)))) Q)
      -∗ wp frame (wpE (defs₀ (F := F)) 𝒱₀ (c : Thread nD τ) none) Set.univ (.op (.load wqM (box 512 256 i h).toLoadRect hl) k) Q) := by
  unfold wqPt
  iintro Hx HK
  iapply (wp_load_rect 𝒱₀ (c : Thread nD τ) none Set.univ (m := wqM) (r := box 512 256 i h) (slot_set wqM i h _).ge) $$ Hx
  iintro Hx
  rw [show (wqM.access (box 512 256 i h)).read (Elt F) (wqAll wq c) = up (wq (dv c i)) from funext fun j => by
    rw [eq_ix3 j]; exact slot_load (Val := Elt F) wqM i h (wqAll wq c) (j 0) (j 1) (j 2)]
  iapply HK
  iexact Hx

theorem load_wo {Q : α → sProp 𝕄} {i : ℕ} {k : Vec F S1x256x512 .bf16 → 𝔓 α} {h : In 256 512 i} {hl} :
    woPt q i h c (woAll wo c) ⊢ iprop((woPt q i h c (woAll wo c) -∗ wp frame (wpE (defs₀ (F := F)) 𝒱₀ (c : Thread nD τ) none) Set.univ (k (up (wo (dv c i)))) Q)
      -∗ wp frame (wpE (defs₀ (F := F)) 𝒱₀ (c : Thread nD τ) none) Set.univ (.op (.load woM (box 256 512 i h).toLoadRect hl) k) Q) := by
  unfold woPt
  iintro Hx HK
  iapply (wp_load_rect 𝒱₀ (c : Thread nD τ) none Set.univ (m := woM) (r := box 256 512 i h) (slot_set woM i h _).ge) $$ Hx
  iintro Hx
  rw [show (woM.access (box 256 512 i h)).read (Elt F) (woAll wo c) = up (wo (dv c i)) from funext fun j => by
    rw [eq_ix3 j]; exact slot_load (Val := Elt F) woM i h (woAll wo c) (j 0) (j 1) (j 2)]
  iapply HK
  iexact Hx

end Loads

/-! ## Loads next to another resource -/

section Lift
variable {α : Type} {val : α}

omit [FloatOps F] in
theorem left_of {P A B C : sProp 𝕄} (h : A ⊢ iprop((A -∗ B) -∗ C)) : iprop(P ∗ A) ⊢ iprop((P ∗ A -∗ B) -∗ C) := by
  refine (sep_mono .rfl h).trans ?_
  iintro ⟨HP, HA⟩ Hk
  iapply HA
  iintro HA
  iapply Hk
  isplitl [HP]; · iexact HP
  iexact HA
omit [FloatOps F] in
theorem right_of {P A B C : sProp 𝕄} (h : A ⊢ iprop((A -∗ B) -∗ C)) : iprop(A ∗ P) ⊢ iprop((A ∗ P -∗ B) -∗ C) := by
  refine (sep_mono h .rfl).trans ?_
  iintro ⟨HA, HP⟩ Hk
  iapply HA
  iintro HA
  iapply Hk
  isplitl [HA]; · iexact HA
  iexact HP

theorem Reads.x {P : sProp 𝕄} {k : Vec F S256x512 .bf16 → 𝔓 α} {h} {hl} (hk : Reads iprop(P ∗ ins c X KT V) c (k X) val) :
    Reads iprop(P ∗ ins c X KT V) c (.op (.load xM (Rect.unit (s := S256x512) ![0, 0] S256x512.size h).toLoadRect hl) k) val :=
  Reads.step (fun _ => left_of load_x) hk
theorem Reads.kk {P : sProp 𝕄} {b n : ℕ} {k : Vec F S1x64x128 .bf16 → 𝔓 α} {h} {hl} (hk : Reads iprop(P ∗ ins c X KT V) c (k (rK KT b n h)) val) :
    Reads iprop(P ∗ ins c X KT V) c (.op (.load ktM (Rect.unit (s := S2x64x2048) ![b, 0, n] S1x64x128.size h).toLoadRect hl) k) val :=
  Reads.step (fun _ => left_of load_k) hk
theorem Reads.vv {P : sProp 𝕄} {b n : ℕ} {k : Vec F S1x128x64 .bf16 → 𝔓 α} {h} {hl} (hk : Reads iprop(P ∗ ins c X KT V) c (k (rV V b n h)) val) :
    Reads iprop(P ∗ ins c X KT V) c (.op (.load vM (Rect.unit (s := S2x128x1024) ![b, 0, n] S1x128x64.size h).toLoadRect hl) k) val :=
  Reads.step (fun _ => left_of load_v) hk

variable {wq : Dev nD → Vec F S512x256 .bf16} {wo : Dev nD → Vec F S256x512 .bf16} {q : PosShare TreeShare}
theorem Reads.wqq {P : sProp 𝕄} {i : ℕ} {k : Vec F S1x512x256 .bf16 → 𝔓 α} {h : In 512 256 i} {hl} (hk : Reads iprop(wqPt q i h c (wqAll wq c) ∗ P) c (k (up (wq (dv c i)))) val) :
    Reads iprop(wqPt q i h c (wqAll wq c) ∗ P) c (.op (.load wqM (box 512 256 i h).toLoadRect hl) k) val :=
  Reads.step (fun _ => right_of load_wq) hk
theorem Reads.woo {P : sProp 𝕄} {i : ℕ} {k : Vec F S1x256x512 .bf16 → 𝔓 α} {h : In 256 512 i} {hl} (hk : Reads iprop(woPt q i h c (woAll wo c) ∗ P) c (k (up (wo (dv c i)))) val) :
    Reads iprop(woPt q i h c (woAll wo c) ∗ P) c (.op (.load woM (box 256 512 i h).toLoadRect hl) k) val :=
  Reads.step (fun _ => right_of load_wo) hk

end Lift

/-! ## The parts that only load -/

section Parts
variable {wq : Dev nD → Vec F S512x256 .bf16} {wo : Dev nD → Vec F S256x512 .bf16} {q : PosShare TreeShare}

theorem part4_reads {P : sProp 𝕄} (v67 : FVec F S256x256 .f32) (v83 : FVec F S128x64 .bf16) (v85 : FVec F S64x128 .bf16) :
    Reads iprop(P ∗ ins c X KT V) c (k0_part4 xM (Memref.isWhole_whole _) wqS (Memref.isWhole_whole _) ktM (Memref.isWhole_whole _) vM (Memref.isWhole_whole _) woS (Memref.isWhole_whole _) oM (Memref.isWhole_whole _) wqM (Memref.isWhole_whole _) woM (Memref.isWhole_whole _) cc0_scratch2 cc0_scratch3 cc0_scratch4 cc0_scratch5 v67 v83 v85)
      ⟨k0_pay7 v83 v85 (rV V 0 64 inb_S2x128x1024_S1x128x64_0_0_64), k0_pay8 v67 (rK KT 0 256 inb_S2x64x2048_S1x64x128_0_0_256) (rV V 0 128 inb_S2x128x1024_S1x128x64_0_0_128), k0_pay10 v67 (rK KT 0 384 inb_S2x64x2048_S1x64x128_0_0_384) (rV V 0 192 inb_S2x128x1024_S1x128x64_0_0_192), k0_pay11 v67 (rK KT 0 384 inb_S2x64x2048_S1x64x128_0_0_384)⟩ := by
  simp only [k0_part4_eq_skeleton]; unfold k0_part4_skel
  simp only [Prog.lift, Prog.bind_op, Prog.bind_ret, Prog.pure_eq_ret]
  exact .vv (.kk (.vv (.kk (.vv .ret))))

theorem part5_reads {P : sProp 𝕄} (v67 : FVec F S256x256 .f32) (v81 : FVec F S128x64 .f32) (v95 : FVec F S128x64 .f32) (v109 : FVec F S128x64 .f32) (v119 : FVec F S128x64 .f32) (v122 : FVec F S128x64 .f32) :
    Reads iprop(P ∗ ins c X KT V) c (k0_part5 xM (Memref.isWhole_whole _) wqS (Memref.isWhole_whole _) ktM (Memref.isWhole_whole _) vM (Memref.isWhole_whole _) woS (Memref.isWhole_whole _) oM (Memref.isWhole_whole _) wqM (Memref.isWhole_whole _) woM (Memref.isWhole_whole _) cc0_scratch2 cc0_scratch3 cc0_scratch4 cc0_scratch5 v67 v81 v95 v109 v119 v122)
      ⟨k0_pay12 v81 v95 v109 v119 v122, k0_pay13 v67 (rK KT 1 0 inb_S2x64x2048_S1x64x128_1_0_0) (rV V 1 0 inb_S2x128x1024_S1x128x64_1_0_0), k0_pay14 v67 (rK KT 1 128 inb_S2x64x2048_S1x64x128_1_0_128) (rV V 1 64 inb_S2x128x1024_S1x128x64_1_0_64), k0_pay15 v67, k0_pay16 (rK KT 1 256 inb_S2x64x2048_S1x64x128_1_0_256), k0_pay17 (rV V 1 128 inb_S2x128x1024_S1x128x64_1_0_128)⟩ := by
  simp only [k0_part5_eq_skeleton]; unfold k0_part5_skel
  simp only [Prog.lift, Prog.bind_op, Prog.bind_ret, Prog.pure_eq_ret]
  exact .kk (.vv (.kk (.vv (.kk (.vv .ret)))))

theorem part6_reads (v4 : BitVec 32) (v67 : FVec F S256x256 .f32) (v124 : FVec F S128x256 .f32) (v138 : FVec F S128x64 .f32) (v152 : FVec F S128x64 .f32) (v154 : FVec F S128x64 .bf16) (v156 : FVec F S64x128 .bf16) (v158 : FVec F S128x64 .bf16) :
    Reads iprop(woPt q 0 inb_S4x256x512_S1x256x512_0_0_0 c (woAll wo c) ∗ ins c X KT V) c (k0_part6 xM (Memref.isWhole_whole _) wqS (Memref.isWhole_whole _) ktM (Memref.isWhole_whole _) vM (Memref.isWhole_whole _) woS (Memref.isWhole_whole _) oM (Memref.isWhole_whole _) wqM (Memref.isWhole_whole _) woM (Memref.isWhole_whole _) cc0_scratch2 cc0_scratch3 cc0_scratch4 cc0_scratch5 v4 v67 v124 v138 v152 v154 v156 v158)
      (k0_pay18 v67 v124 v138 v152 v154 v156 v158 (rK KT 1 384 inb_S2x64x2048_S1x64x128_1_0_384) (rV V 1 192 inb_S2x128x1024_S1x128x64_1_0_192) (up (wo (dv c 0)))) := by
  simp only [k0_part6_eq_skeleton]; unfold k0_part6_skel
  simp only [Prog.lift, Prog.bind_op, Prog.bind_ret, Prog.pure_eq_ret]
  exact .kk (.vv (.woo .ret))

theorem part9_reads {P : sProp 𝕄} (v235 : FVec F S256x256 .f32) (v251 : FVec F S128x64 .bf16) :
    Reads iprop(P ∗ ins c X KT V) c (k0_part9 xM (Memref.isWhole_whole _) wqS (Memref.isWhole_whole _) ktM (Memref.isWhole_whole _) vM (Memref.isWhole_whole _) woS (Memref.isWhole_whole _) oM (Memref.isWhole_whole _) wqM (Memref.isWhole_whole _) woM (Memref.isWhole_whole _) cc0_scratch2 cc0_scratch3 cc0_scratch4 cc0_scratch5 v235 v251)
      ⟨k0_pay22 v251 (rK KT 0 1664 inb_S2x64x2048_S1x64x128_0_0_1664) (rV V 0 832 inb_S2x128x1024_S1x128x64_0_0_832), k0_pay23 v235 (rK KT 0 1792 inb_S2x64x2048_S1x64x128_0_0_1792) (rV V 0 896 inb_S2x128x1024_S1x128x64_0_0_896), k0_pay24 (rV V 0 960 inb_S2x128x1024_S1x128x64_0_0_960), k0_pay25 v235 (rK KT 0 1920 inb_S2x64x2048_S1x64x128_0_0_1920), k0_pay26 v235 (rK KT 0 1920 inb_S2x64x2048_S1x64x128_0_0_1920), (constant S128x64 .f32 0x00000000#32)⟩ := by
  simp only [k0_part9_eq_skeleton]; unfold k0_part9_skel
  simp only [Prog.lift, Prog.bind_op, Prog.bind_ret, Prog.pure_eq_ret]
  exact .kk (.vv (.kk (.vv (.kk (.vv .ret)))))

theorem part10_reads {P : sProp 𝕄} (v235 : FVec F S256x256 .f32) (v249 : FVec F S128x64 .f32) (v263 : FVec F S128x64 .f32) (v277 : FVec F S128x64 .f32) (v283 : FVec F S128x64 .bf16) (v285 : FVec F S128x128 .f32) (v286 : FVec F S128x128 .bf16) (cst_214 : FVec F S128x64 .f32) :
    Reads iprop(P ∗ ins c X KT V) c (k0_part10 xM (Memref.isWhole_whole _) wqS (Memref.isWhole_whole _) ktM (Memref.isWhole_whole _) vM (Memref.isWhole_whole _) woS (Memref.isWhole_whole _) oM (Memref.isWhole_whole _) wqM (Memref.isWhole_whole _) woM (Memref.isWhole_whole _) cc0_scratch2 cc0_scratch3 cc0_scratch4 cc0_scratch5 v235 v249 v263 v277 v283 v285 v286 cst_214)
      ⟨k0_pay27 v249 v263 v277 v283 v285 v286 cst_214, k0_pay28 v235 (rK KT 1 1536 inb_S2x64x2048_S1x64x128_1_0_1536) (rV V 1 768 inb_S2x128x1024_S1x128x64_1_0_768), k0_pay29 v235 (rK KT 1 1664 inb_S2x64x2048_S1x64x128_1_0_1664) (rV V 1 832 inb_S2x128x1024_S1x128x64_1_0_832), k0_pay30 v235, k0_pay31 (rK KT 1 1792 inb_S2x64x2048_S1x64x128_1_0_1792)⟩ := by
  simp only [k0_part10_eq_skeleton]; unfold k0_part10_skel
  simp only [Prog.lift, Prog.bind_op, Prog.bind_ret, Prog.pure_eq_ret]
  exact .kk (.vv (.kk (.vv (.kk .ret))))

theorem part11_reads (v7 : BitVec 32) (v186 : FVec F S256x512 .f32) (v235 : FVec F S256x256 .f32) (v292 : FVec F S128x256 .f32) (v306 : FVec F S128x64 .f32) (v320 : FVec F S128x64 .f32) (v322 : FVec F S128x64 .bf16) (v324 : FVec F S64x128 .bf16) :
    Reads iprop(woPt q 3 inb_S4x256x512_S1x256x512_3_0_0 c (woAll wo c) ∗ ins c X KT V) c (k0_part11 xM (Memref.isWhole_whole _) wqS (Memref.isWhole_whole _) ktM (Memref.isWhole_whole _) vM (Memref.isWhole_whole _) woS (Memref.isWhole_whole _) oM (Memref.isWhole_whole _) wqM (Memref.isWhole_whole _) woM (Memref.isWhole_whole _) cc0_scratch2 cc0_scratch3 cc0_scratch4 cc0_scratch5 v7 v186 v235 v292 v306 v320 v322 v324)
      (k0_pay32 v186 v235 v292 v306 v320 v322 v324 (rV V 1 896 inb_S2x128x1024_S1x128x64_1_0_896) (rK KT 1 1920 inb_S2x64x2048_S1x64x128_1_0_1920) (rV V 1 960 inb_S2x128x1024_S1x128x64_1_0_960) (up (wo (dv c 3)))) := by
  simp only [k0_part11_eq_skeleton]; unfold k0_part11_skel
  simp only [Prog.lift, Prog.bind_op, Prog.bind_ret, Prog.pure_eq_ret]
  exact .vv (.kk (.vv (.woo .ret)))

theorem part13_reads {P : sProp 𝕄} (v368 : FVec F S256x256 .f32) (v382 : FVec F S128x64 .f32) (v388 : FVec F S128x64 .bf16) (v390 : FVec F S128x128 .f32) (v391 : FVec F S128x128 .bf16) (cst_285 : FVec F S128x64 .f32) :
    Reads iprop(P ∗ ins c X KT V) c (k0_part13 xM (Memref.isWhole_whole _) wqS (Memref.isWhole_whole _) ktM (Memref.isWhole_whole _) vM (Memref.isWhole_whole _) woS (Memref.isWhole_whole _) oM (Memref.isWhole_whole _) wqM (Memref.isWhole_whole _) woM (Memref.isWhole_whole _) cc0_scratch2 cc0_scratch3 cc0_scratch4 cc0_scratch5 v368 v382 v388 v390 v391 cst_285)
      ⟨k0_pay38 v368 v382 v388 v390 v391 cst_285 (rK KT 0 768 inb_S2x64x2048_S1x64x128_0_0_768) (rV V 0 384 inb_S2x128x1024_S1x128x64_0_0_384) (rK KT 0 896 inb_S2x64x2048_S1x64x128_0_0_896) (rV V 0 448 inb_S2x128x1024_S1x128x64_0_0_448), k0_pay39 v368, k0_pay40 (rK KT 1 512 inb_S2x64x2048_S1x64x128_1_0_512)⟩ := by
  simp only [k0_part13_eq_skeleton]; unfold k0_part13_skel
  simp only [Prog.lift, Prog.bind_op, Prog.bind_ret, Prog.pure_eq_ret]
  exact .kk (.vv (.kk (.vv (.kk .ret))))

theorem part14_reads {P : sProp 𝕄} (v368 : FVec F S256x256 .f32) (v427 : FVec F S128x64 .bf16) (v429 : FVec F S64x128 .bf16) :
    Reads iprop(P ∗ ins c X KT V) c (k0_part14 xM (Memref.isWhole_whole _) wqS (Memref.isWhole_whole _) ktM (Memref.isWhole_whole _) vM (Memref.isWhole_whole _) woS (Memref.isWhole_whole _) oM (Memref.isWhole_whole _) wqM (Memref.isWhole_whole _) woM (Memref.isWhole_whole _) cc0_scratch2 cc0_scratch3 cc0_scratch4 cc0_scratch5 v368 v427 v429)
      ⟨k0_pay41 v427 v429 (rV V 1 256 inb_S2x128x1024_S1x128x64_1_0_256), k0_pay42 v368 (rK KT 1 640 inb_S2x64x2048_S1x64x128_1_0_640) (rV V 1 320 inb_S2x128x1024_S1x128x64_1_0_320), k0_pay44 v368 (rK KT 1 768 inb_S2x64x2048_S1x64x128_1_0_768) (rV V 1 384 inb_S2x128x1024_S1x128x64_1_0_384), k0_pay45 v368 (rK KT 1 768 inb_S2x64x2048_S1x64x128_1_0_768)⟩ := by
  simp only [k0_part14_eq_skeleton]; unfold k0_part14_skel
  simp only [Prog.lift, Prog.bind_op, Prog.bind_ret, Prog.pure_eq_ret]
  exact .vv (.kk (.vv (.kk (.vv .ret))))

theorem part17_reads {P : sProp 𝕄} (v509 : FVec F S256x256 .f32) (v523 : FVec F S128x64 .f32) (v525 : FVec F S128x64 .bf16) (v527 : FVec F S64x128 .bf16) (v529 : FVec F S128x64 .bf16) :
    Reads iprop(P ∗ ins c X KT V) c (k0_part17 xM (Memref.isWhole_whole _) wqS (Memref.isWhole_whole _) ktM (Memref.isWhole_whole _) vM (Memref.isWhole_whole _) woS (Memref.isWhole_whole _) oM (Memref.isWhole_whole _) wqM (Memref.isWhole_whole _) woM (Memref.isWhole_whole _) cc0_scratch2 cc0_scratch3 cc0_scratch4 cc0_scratch5 v509 v523 v525 v527 v529)
      ⟨k0_pay52 v509 v523 v525 v527 v529 (rK KT 0 1280 inb_S2x64x2048_S1x64x128_0_0_1280) (rV V 0 640 inb_S2x128x1024_S1x128x64_0_0_640) (rK KT 0 1408 inb_S2x64x2048_S1x64x128_0_0_1408) (rV V 0 704 inb_S2x128x1024_S1x128x64_0_0_704), k0_pay53 v509⟩ := by
  simp only [k0_part17_eq_skeleton]; unfold k0_part17_skel
  simp only [Prog.lift, Prog.bind_op, Prog.bind_ret, Prog.pure_eq_ret]
  exact .kk (.vv (.kk (.vv .ret)))

theorem part18_reads {P : sProp 𝕄} (v509 : FVec F S256x256 .f32) (v568 : FVec F S128x64 .bf16) :
    Reads iprop(P ∗ ins c X KT V) c (k0_part18 xM (Memref.isWhole_whole _) wqS (Memref.isWhole_whole _) ktM (Memref.isWhole_whole _) vM (Memref.isWhole_whole _) woS (Memref.isWhole_whole _) oM (Memref.isWhole_whole _) wqM (Memref.isWhole_whole _) woM (Memref.isWhole_whole _) cc0_scratch2 cc0_scratch3 cc0_scratch4 cc0_scratch5 v509 v568)
      ⟨k0_pay54 v568 (rK KT 1 1024 inb_S2x64x2048_S1x64x128_1_0_1024) (rV V 1 512 inb_S2x128x1024_S1x128x64_1_0_512), k0_pay55 v509 (rK KT 1 1152 inb_S2x64x2048_S1x64x128_1_0_1152) (rV V 1 576 inb_S2x128x1024_S1x128x64_1_0_576), k0_pay56 (rV V 1 640 inb_S2x128x1024_S1x128x64_1_0_640), k0_pay57 v509 (rK KT 1 1280 inb_S2x64x2048_S1x64x128_1_0_1280), k0_pay58 v509 (rK KT 1 1280 inb_S2x64x2048_S1x64x128_1_0_1280)⟩ := by
  simp only [k0_part18_eq_skeleton]; unfold k0_part18_skel
  simp only [Prog.lift, Prog.bind_op, Prog.bind_ret, Prog.pure_eq_ret]
  exact .kk (.vv (.kk (.vv (.kk (.vv .ret)))))

end Parts

end Cert.KernelIdeal.Ring
-- ==== Proof.Body.lean ====
/-
The kernel's body on one device, run once: the parts that signal, copy, wait and store, and the whole body from the
device's buffers, tokens and credits to its result, with every semaphore back at zero.
-/
module

public import proofs.«01_k».proof.Proof.Parts

@[expose] public section

noncomputable section

namespace Cert.KernelIdeal.Ring

open Cert.KernelIdeal Cert.KernelIdeal.Gen Cert.Slots
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝔓" => Prog (TpuEff nD τ sig (Elt F) Λ₀ Proc.tc)

variable {c : Dev nD} {X : Vec F S256x512 .bf16} {KT : Vec F S2x64x2048 .bf16} {V : Vec F S2x128x1024 .bf16}
variable (wq : Dev nD → Vec F S512x256 .bf16) (wo : Dev nD → Vec F S256x512 .bf16) (K : GSem nD τ sig → ℕ)

/-! ## Stores into a slot and loads whose value is dropped -/

section Slot
variable {α : Type}

theorem store_wq {Q : α → sProp 𝕄} {k : PUnit → 𝔓 α} {i : ℕ} {h : In 512 256 i} {w : Vec F S1x512x256 .bf16} {hx} {hm}
    (f g : Buf (Elt F) (wqM.view.loc (c : Thread nD τ)))
    (hw : ∀ x y, w (ix3 (0 : Fin 1) x y) = wqM.view.read (Elt F) g (ix3 (⟨i, h.lt⟩ : Fin 4) x y)) :
    wqPt fullShare i h c f ⊢ iprop((wqPt fullShare i h c g -∗ wp frame (wpE (defs₀ (F := F)) 𝒱₀ (c : Thread nD τ) none) Set.univ (k ⟨⟩) Q)
      -∗ wp frame (wpE (defs₀ (F := F)) 𝒱₀ (c : Thread nD τ) none) Set.univ (.op (.store wqM (box 512 256 i h) w Finset.univ hx hm) k) Q) := by
  unfold wqPt
  iintro Hx HK
  iapply (wp_store 𝒱₀ (c : Thread nD τ) none Set.univ (m := wqM) (r := box 512 256 i h) (Mk := Finset.univ) (slot_set wqM i h _).ge) $$ Hx
  iintro Hx
  iapply HK
  iapply (Entails.of_eq (pointsTo_congr (slot_store (Val := Elt F) wqM i h _ f g w hw)))
  iexact Hx

theorem store_wo {Q : α → sProp 𝕄} {k : PUnit → 𝔓 α} {i : ℕ} {h : In 256 512 i} {w : Vec F S1x256x512 .bf16} {hx} {hm}
    (f g : Buf (Elt F) (woM.view.loc (c : Thread nD τ)))
    (hw : ∀ x y, w (ix3 (0 : Fin 1) x y) = woM.view.read (Elt F) g (ix3 (⟨i, h.lt⟩ : Fin 4) x y)) :
    woPt fullShare i h c f ⊢ iprop((woPt fullShare i h c g -∗ wp frame (wpE (defs₀ (F := F)) 𝒱₀ (c : Thread nD τ) none) Set.univ (k ⟨⟩) Q)
      -∗ wp frame (wpE (defs₀ (F := F)) 𝒱₀ (c : Thread nD τ) none) Set.univ (.op (.store woM (box 256 512 i h) w Finset.univ hx hm) k) Q) := by
  unfold woPt
  iintro Hx HK
  iapply (wp_store 𝒱₀ (c : Thread nD τ) none Set.univ (m := woM) (r := box 256 512 i h) (Mk := Finset.univ) (slot_set woM i h _).ge) $$ Hx
  iintro Hx
  iapply HK
  iapply (Entails.of_eq (pointsTo_congr (slot_store (Val := Elt F) woM i h _ f g w hw)))
  iexact Hx

theorem touch_wq {Q : α → sProp 𝕄} {i : ℕ} {k : Vec F S1x512x256 .bf16 → 𝔓 α} {h : In 512 256 i} {hl} (f) :
    wqPt fullShare i h c f ⊢ iprop((∀ v, wqPt fullShare i h c f -∗ wp frame (wpE (defs₀ (F := F)) 𝒱₀ (c : Thread nD τ) none) Set.univ (k v) Q)
      -∗ wp frame (wpE (defs₀ (F := F)) 𝒱₀ (c : Thread nD τ) none) Set.univ (.op (.load wqM (box 512 256 i h).toLoadRect hl) k) Q) := by
  unfold wqPt
  iintro Hx HK
  iapply (wp_load_rect 𝒱₀ (c : Thread nD τ) none Set.univ (m := wqM) (r := box 512 256 i h) (slot_set wqM i h _).ge) $$ Hx
  iintro Hx
  iapply HK
  iexact Hx

theorem touch_wo {Q : α → sProp 𝕄} {i : ℕ} {k : Vec F S1x256x512 .bf16 → 𝔓 α} {h : In 256 512 i} {hl} (f) :
    woPt fullShare i h c f ⊢ iprop((∀ v, woPt fullShare i h c f -∗ wp frame (wpE (defs₀ (F := F)) 𝒱₀ (c : Thread nD τ) none) Set.univ (k v) Q)
      -∗ wp frame (wpE (defs₀ (F := F)) 𝒱₀ (c : Thread nD τ) none) Set.univ (.op (.load woM (box 256 512 i h).toLoadRect hl) k) Q) := by
  unfold woPt
  iintro Hx HK
  iapply (wp_load_rect 𝒱₀ (c : Thread nD τ) none Set.univ (m := woM) (r := box 256 512 i h) (slot_set woM i h _).ge) $$ Hx
  iintro Hx
  iapply HK
  iexact Hx

end Slot

/-! ## The parts of the protocol -/

/-- The device's own weight blocks, as staged. -/
def own (c : Dev nD) : sProp 𝕄 :=
  iprop((wqS.view.loc (c : Thread nD τ) ↦{fullShare} (wq c)) ∗ (woS.view.loc (c : Thread nD τ) ↦{fullShare} (wo c)))

omit [FloatOps F] in
theorem pay_barT (p : Dev nD) : barT (F := F) p = payOf wq wo (.reg barS) p true := rfl
omit [FloatOps F] in
theorem pay_barF (p : Dev nD) : barF (F := F) p = payOf wq wo (.reg barS) p false := rfl
theorem bar_low (c : Dev nD) : ∀ j < 6, lvOf (.reg barS) < lvOf (payCell c j).2 := by
  intro j hj
  match j, hj with
  | 0, _ => show 1 < 3; decide
  | 1, _ => show 1 < 3; decide
  | 2, _ => show 1 < 2; decide
  | 3, _ => show 1 < 2; decide
  | 4, _ => show 1 < 2; decide
  | 5, _ => show 1 < 2; decide

theorem pay1_slot (c : Dev nD) (x : Fin 512) (y : Fin 256) :
    k0_pay1 (wq c) (ix3 (0 : Fin 1) x y) = wqM.view.read (Elt F) (wqAll wq c) (ix3 (⟨0, In.lt inb_S4x512x256_S1x512x256_0_0_0⟩ : Fin 4) x y) := by
  unfold k0_pay1
  rw [shapeCast_ab_1ab_apply, shapeCast_self]
  show wq c (ix2 x y) = wq (dv c 0) (ix2 x y)
  rw [dv_zero]
theorem pay2_slot (c : Dev nD) (x : Fin 256) (y : Fin 512) :
    k0_pay2 (wo c) (ix3 (0 : Fin 1) x y) = woM.view.read (Elt F) (woAll wo c) (ix3 (⟨0, In.lt inb_S4x256x512_S1x256x512_0_0_0⟩ : Fin 4) x y) := by
  unfold k0_pay2
  rw [shapeCast_ab_1ab_apply, shapeCast_self]
  show wo c (ix2 x y) = wo (dv c 0) (ix2 x y)
  rw [dv_zero]

/-- The device fills its slots `0`, signals both neighbours and waits for both. -/
theorem part1_run {Q : (Σ' (_ : Dev nD) (_ : BitVec 32) (_ : BitVec 32), BitVec 32) → sProp 𝕄} :
    iprop(invs wq wo K ∗ levAts L lv ∗ owed (F := F) c 8
        ∗ (dutyTok ER (barCell (prv c)) 0 true ∗ reached ER (barCell (prv c)) 0 ∗ barT (prv c))
        ∗ (dutyTok ER (barCell (nxt c)) 0 false ∗ reached ER (barCell (nxt c)) 0 ∗ barF (nxt c))
        ∗ (cred (tallyAt (barCell c) () 2) ∗ atPos ER (barCell c) 0 ∅ 0)
        ∗ own wq wo c ∗ (∃ f, wqPt fullShare 0 inb_S4x512x256_S1x512x256_0_0_0 c f) ∗ (∃ f, woPt fullShare 0 inb_S4x256x512_S1x256x512_0_0_0 c f)
        ∗ (∀ v4 v7 v23, (owed (F := F) c 6 ∗ atPos ER (barCell c) (0 + 1) ∅ 0 ∗ barF c ∗ barT c ∗ own wq wo c
            ∗ wqPt fullShare 0 inb_S4x512x256_S1x512x256_0_0_0 c (wqAll wq c) ∗ woPt fullShare 0 inb_S4x256x512_S1x256x512_0_0_0 c (woAll wo c)) -∗ Q ⟨c, v4, v7, v23⟩))
      ⊢ wp frame (wpE (defs₀ (F := F)) 𝒱₀ (c : Thread nD τ) none) Set.univ (k0_part1 xM (Memref.isWhole_whole _) wqS (Memref.isWhole_whole _) ktM (Memref.isWhole_whole _) vM (Memref.isWhole_whole _) woS (Memref.isWhole_whole _) oM (Memref.isWhole_whole _) wqM (Memref.isWhole_whole _) woM (Memref.isWhole_whole _) cc0_scratch2 cc0_scratch3 cc0_scratch4 cc0_scratch5) Q := by
  simp only [k0_part1_eq_skeleton]; unfold k0_part1_skel
  simp only [semSignalWord, semWaitWord, Prog.lift, Prog.bind_op, Prog.bind_ret, Prog.pure_eq_ret, wp_deviceId]
  unfold own
  iintro ⟨#HI, #Hlev, HO, ⟨Ht1, #Hr1, HT⟩, ⟨Ht2, #Hr2, HF⟩, ⟨Hc, Hat⟩, ⟨Hq, Ho⟩, ⟨%f, Hwq⟩, ⟨%g, Hwo⟩, Hk⟩
  iapply (wp_load 𝒱₀ (c : Thread nD τ) none Set.univ (m := wqS) (Finset.subset_univ _)) $$ Hq
  iintro Hq
  rw [show wqS.view.readAt (Elt F) (Rect.unit (s := S512x256) ![0, 0] S512x256.size inb_S512x256_S512x256_0_0).toLoadRect (wq c) = wq c from
    Memref.readAt_unit_zero (Elt F) cc0_stg1_0 zz _ _]
  iapply (touch_wq f) $$ Hwq
  iintro %_ Hwq
  iapply (store_wq f (wqAll wq c) (pay1_slot wq c)) $$ Hwq
  iintro Hwq
  iapply (wp_load 𝒱₀ (c : Thread nD τ) none Set.univ (m := woS) (Finset.subset_univ _)) $$ Ho
  iintro Ho
  rw [show woS.view.readAt (Elt F) (Rect.unit (s := S256x512) ![0, 0] S256x512.size inb_S256x512_S256x512_0_0).toLoadRect (wo c) = wo c from
    Memref.readAt_unit_zero (Elt F) cc0_stg4_0 zz _ _]
  iapply (touch_wo g) $$ Hwo
  iintro %_ Hwo
  iapply (store_wo g (woAll wo c) (pay2_slot wo c)) $$ Hwo
  iintro Hwo
  simp only [dev1_eq c, dev2_eq c]
  iapply (signal_step wq wo K (p := prv c) (d := true) (n := 7) rfl rfl) $$ [HO Ht1 HT]
  · isplitr; · iexact HI
    isplitl [HO]; · iexact HO
    isplitl [Ht1]; · iexact Ht1
    isplitl [HT]; · iapply (Entails.of_eq (pay_barT wq wo (prv c))); iexact HT
    iexact Hr1
  iintro HO
  iapply (signal_step wq wo K (p := nxt c) (d := false) (n := 6) rfl rfl) $$ [HO Ht2 HF]
  · isplitr; · iexact HI
    isplitl [HO]; · iexact HO
    isplitl [Ht2]; · iexact Ht2
    isplitl [HF]; · iapply (Entails.of_eq (pay_barF wq wo (nxt c))); iexact HF
    iexact Hr2
  iintro HO
  iapply (bar_step wq wo K (n := 6) (bar_low c)) $$ [HO Hc Hat]
  · isplitr; · iexact HI
    isplitr; · iexact Hlev
    isplitl [Hc]; · iexact Hc
    isplitl [HO]; · iexact HO
    iexact Hat
  iintro ⟨HO, Hat, HF, HT⟩
  rw [wp_ret]; imodintro
  iapply Hk
  isplitl [HO]; · iexact HO
  isplitl [Hat]; · iexact Hat
  isplitl [HF]; · iexact HF
  isplitl [HT]; · iexact HT
  isplitl [Hq Ho]
  · isplitl [Hq]; · iexact Hq
    iexact Ho
  isplitl [Hwq]; · iexact Hwq
  iexact Hwo

/-! ## Copies -/

/-- The same with the target spelt as the kernel computes it. -/
theorem push_wq {p p' : Dev nD} (hp : p' = p) {i j : ℕ} {hi : In 512 256 i} {hj : In 512 256 j} {q : PosShare TreeShare} {s r : ℕ} {hs : s < 18} {hr : r < 18}
    (hs6 : 6 ≤ s) (hs12 : s < 12) (hr6 : 6 ≤ r) (hr12 : r < 12) (hd : dv c i = dv p j) {n : ℕ}
    (hc : payCell c n = cell p r hr) (ha : payAmt n = Nq)
    (hpS : dmaPay (F := F) wq wo s c = wqPt q i hi c (wqAll wq c)) (hpR : dmaPay (F := F) wq wo r p = wqPt fullShare j hj p (wqAll wq p))
    {hsc} {hsrc} {hdst} {hsem} {α : Type} {Q : α → sProp 𝕄} {k : PUnit → Prog (TpuEff nD τ sig (Elt F) Λ₀ .tc) α} :
    iprop(invs wq wo K ∗ wqPt q i hi c (wqAll wq c) ∗ (∃ f, wqPt fullShare j hj p f) ∗ owed (F := F) c (n + 1)
        ∗ dutyTok ER (cell c s hs) 0 true ∗ reached ER (cell c s hs) 0 ∗ dutyTok ER (cell p r hr) 0 true ∗ reached ER (cell p r hr) 0)
      ⊢ iprop((cred (tallyAt (cell c s hs) () Nq) ∗ owed c n -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (wqV i hi) (.remote (Dev.tc p') (wqV j hj) (.dma (dq s hs)) hsc) (.dma (dq r hr)) hsrc hdst hsem) k) Q) := by
  subst hp
  exact send_wq wq wo K hs6 hs12 hr6 hr12 hd hc ha hpS hpR

/-- The same with the target spelt as the kernel computes it. -/
theorem push_wo {p p' : Dev nD} (hp : p' = p) {i j : ℕ} {hi : In 256 512 i} {hj : In 256 512 j} {q : PosShare TreeShare} {s r : ℕ} {hs : s < 18} {hr : r < 18}
    (hs12 : ¬ s < 12) (hr12 : ¬ r < 12) (hd : dv c i = dv p j) {n : ℕ}
    (hc : payCell c n = cell p r hr) (ha : payAmt n = No)
    (hpS : dmaPay (F := F) wq wo s c = woPt q i hi c (woAll wo c)) (hpR : dmaPay (F := F) wq wo r p = woPt fullShare j hj p (woAll wo p))
    {hsc} {hsrc} {hdst} {hsem} {α : Type} {Q : α → sProp 𝕄} {k : PUnit → Prog (TpuEff nD τ sig (Elt F) Λ₀ .tc) α} :
    iprop(invs wq wo K ∗ woPt q i hi c (woAll wo c) ∗ (∃ f, woPt fullShare j hj p f) ∗ owed (F := F) c (n + 1)
        ∗ dutyTok ER (cell c s hs) 0 true ∗ reached ER (cell c s hs) 0 ∗ dutyTok ER (cell p r hr) 0 true ∗ reached ER (cell p r hr) 0)
      ⊢ iprop((cred (tallyAt (cell c s hs) () No) ∗ owed c n -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (woV i hi) (.remote (Dev.tc p') (woV j hj) (.dma (dq s hs)) hsc) (.dma (dq r hr)) hsrc hdst hsem) k) Q) := by
  subst hp
  exact send_wo wq wo K hs12 hr12 hd hc ha hpS hpR

/-- What a copy from cell `s` into cell `r` of `p` needs besides its buffers. -/
def tick (c : Dev nD) (s : ℕ) (p : Dev nD) (r : ℕ) (hs : s < 18 := by decide) (hr : r < 18 := by decide) : sProp 𝕄 :=
  iprop(dutyTok ER (cell c s hs) 0 true ∗ reached ER (cell c s hs) 0 ∗ dutyTok ER (cell p r hr) 0 true)

omit [FloatOps F] in
theorem pay6 (c : Dev nD) : dmaPay (F := F) wq wo 6 c = wqPt qA 0 inb_S4x512x256_S1x512x256_0_0_0 c (wqAll wq c) := rfl
omit [FloatOps F] in
theorem pay7 (c : Dev nD) : dmaPay (F := F) wq wo 7 c = wqPt qB 0 inb_S4x512x256_S1x512x256_0_0_0 c (wqAll wq c) := rfl
omit [FloatOps F] in
theorem pay8 (c : Dev nD) : dmaPay (F := F) wq wo 8 c = wqPt qA 3 inb_S4x512x256_S1x512x256_3_0_0 c (wqAll wq c) := rfl
omit [FloatOps F] in
theorem pay9 (c : Dev nD) : dmaPay (F := F) wq wo 9 c = wqPt fullShare 3 inb_S4x512x256_S1x512x256_3_0_0 c (wqAll wq c) := rfl
omit [FloatOps F] in
theorem pay10 (c : Dev nD) : dmaPay (F := F) wq wo 10 c = wqPt fullShare 1 inb_S4x512x256_S1x512x256_1_0_0 c (wqAll wq c) := rfl
omit [FloatOps F] in
theorem pay11 (c : Dev nD) : dmaPay (F := F) wq wo 11 c = wqPt fullShare 2 inb_S4x512x256_S1x512x256_2_0_0 c (wqAll wq c) := rfl
omit [FloatOps F] in
theorem pay12 (c : Dev nD) : dmaPay (F := F) wq wo 12 c = woPt qA 0 inb_S4x256x512_S1x256x512_0_0_0 c (woAll wo c) := rfl
omit [FloatOps F] in
theorem pay13 (c : Dev nD) : dmaPay (F := F) wq wo 13 c = woPt qB 0 inb_S4x256x512_S1x256x512_0_0_0 c (woAll wo c) := rfl
omit [FloatOps F] in
theorem pay14 (c : Dev nD) : dmaPay (F := F) wq wo 14 c = woPt qA 1 inb_S4x256x512_S1x256x512_1_0_0 c (woAll wo c) := rfl
omit [FloatOps F] in
theorem pay15 (c : Dev nD) : dmaPay (F := F) wq wo 15 c = woPt fullShare 1 inb_S4x256x512_S1x256x512_1_0_0 c (woAll wo c) := rfl
omit [FloatOps F] in
theorem pay16 (c : Dev nD) : dmaPay (F := F) wq wo 16 c = woPt fullShare 3 inb_S4x256x512_S1x256x512_3_0_0 c (woAll wo c) := rfl
omit [FloatOps F] in
theorem pay17 (c : Dev nD) : dmaPay (F := F) wq wo 17 c = woPt fullShare 2 inb_S4x256x512_S1x256x512_2_0_0 c (woAll wo c) := rfl
theorem hd0n (c : Dev nD) : dv c 0 = dv (nxt c) 3 := by revert c; decide
theorem hd0p (c : Dev nD) : dv c 0 = dv (prv c) 1 := by revert c; decide
theorem hd3n (c : Dev nD) : dv c 3 = dv (nxt c) 2 := by revert c; decide
theorem hd1p (c : Dev nD) : dv c 1 = dv (prv c) 2 := by revert c; decide
theorem low2 (c : Dev nD) : ∀ j < 2, lvOf (.dma (dq 9 (by decide))) < lvOf (payCell c j).2 := by
  intro j hj
  match j, hj with
  | 0, _ => show 2 < 3; decide
  | 1, _ => show 2 < 3; decide
theorem low1 (c : Dev nD) : ∀ j < 1, lvOf (.dma (dq 15 (by decide))) < lvOf (payCell c j).2 := by
  intro j hj
  match j, hj with
  | 0, _ => show 2 < 3; decide

/-- The first three copies: the own `Wq` block to both neighbours, the own `Wo` block to the previous device. -/
theorem part2_run {Q : PUnit → sProp 𝕄} {v7 v23 : BitVec 32} :
    iprop(invs wq wo K ∗ owed (F := F) c 6 ∗ wqPt fullShare 0 inb_S4x512x256_S1x512x256_0_0_0 c (wqAll wq c) ∗ woPt fullShare 0 inb_S4x256x512_S1x256x512_0_0_0 c (woAll wo c) ∗ (∃ f, wqPt fullShare 3 inb_S4x512x256_S1x512x256_3_0_0 (nxt c) f) ∗ reached ER (cell (nxt c) 9) 0 ∗ tick (F := F) c 6 (nxt c) 9 ∗ (∃ f, woPt fullShare 1 inb_S4x256x512_S1x256x512_1_0_0 (prv c) f) ∗ reached ER (cell (prv c) 15) 0 ∗ tick (F := F) c 12 (prv c) 15 ∗ (∃ f, wqPt fullShare 1 inb_S4x512x256_S1x512x256_1_0_0 (prv c) f) ∗ reached ER (cell (prv c) 10) 0 ∗ tick (F := F) c 7 (prv c) 10 ∗ ((owed (F := F) c 3 ∗ wqPt qC 0 inb_S4x512x256_S1x512x256_0_0_0 c (wqAll wq c) ∗ woPt qD 0 inb_S4x256x512_S1x256x512_0_0_0 c (woAll wo c) ∗ cred (tallyAt (cell c 6) () Nq) ∗ cred (tallyAt (cell c 12) () No) ∗ cred (tallyAt (cell c 7) () Nq)) -∗ Q ⟨⟩))
      ⊢ wp frame (wpE (defs₀ (F := F)) 𝒱₀ (c : Thread nD τ) none) Set.univ (k0_part2 xM (Memref.isWhole_whole _) wqS (Memref.isWhole_whole _) ktM (Memref.isWhole_whole _) vM (Memref.isWhole_whole _) woS (Memref.isWhole_whole _) oM (Memref.isWhole_whole _) wqM (Memref.isWhole_whole _) woM (Memref.isWhole_whole _) cc0_scratch2 cc0_scratch3 cc0_scratch4 cc0_scratch5 c v7 v23) Q := by
  simp only [k0_part2_eq_skeleton]; unfold k0_part2_skel
  simp only [Prog.lift, Prog.bind_op, Prog.bind_ret, Prog.pure_eq_ret]
  unfold tick
  iintro ⟨#HI, HO, Hq, Ho, D1, #R1, ⟨A1, #B1, C1⟩, D2, #R2, ⟨A2, #B2, C2⟩, D3, #R3, ⟨A3, #B3, C3⟩, Hk⟩
  ihave Hq := (wq_two _ _ _ _).1 $$ Hq
  icases Hq with ⟨HqA, Hq⟩
  ihave Hq := (wq_two' _ _ _ _).1 $$ Hq
  icases Hq with ⟨HqB, Hq⟩
  ihave Ho := (wo_two _ _ _ _).1 $$ Ho
  icases Ho with ⟨HoA, Ho⟩
  iapply (push_wq wq wo K (dev3_eq c) (i := 0) (j := 3) (s := 6) (r := 9) (n := 5) (by decide) (by decide) (by decide) (by decide) (hd0n c) rfl rfl rfl rfl) $$ [HqA D1 HO A1 C1]
  · isplitr; · iexact HI
    isplitl [HqA]; · iexact HqA
    isplitl [D1]; · iexact D1
    isplitl [HO]; · iexact HO
    isplitl [A1]; · iexact A1
    isplitr; · iexact B1
    isplitl [C1]; · iexact C1
    iexact R1
  iintro ⟨E1, HO⟩
  iapply (push_wo wq wo K (dev4_eq c) (i := 0) (j := 1) (s := 12) (r := 15) (n := 4) (by decide) (by decide) (hd0p c) rfl rfl rfl rfl) $$ [HoA D2 HO A2 C2]
  · isplitr; · iexact HI
    isplitl [HoA]; · iexact HoA
    isplitl [D2]; · iexact D2
    isplitl [HO]; · iexact HO
    isplitl [A2]; · iexact A2
    isplitr; · iexact B2
    isplitl [C2]; · iexact C2
    iexact R2
  iintro ⟨E2, HO⟩
  iapply (push_wq wq wo K (dev5_eq c) (i := 0) (j := 1) (s := 7) (r := 10) (n := 3) (by decide) (by decide) (by decide) (by decide) (hd0p c) rfl rfl rfl rfl) $$ [HqB D3 HO A3 C3]
  · isplitr; · iexact HI
    isplitl [HqB]; · iexact HqB
    isplitl [D3]; · iexact D3
    isplitl [HO]; · iexact HO
    isplitl [A3]; · iexact A3
    isplitr; · iexact B3
    isplitl [C3]; · iexact C3
    iexact R3
  iintro ⟨E3, HO⟩
  rw [wp_ret]; imodintro
  iapply Hk
  isplitl [HO]; · iexact HO
  isplitl [Hq]; · iexact Hq
  isplitl [Ho]; · iexact Ho
  isplitl [E1]; · iexact E1
  isplitl [E2]; · iexact E2
  iexact E3

/-- The own `Wo` block goes to the next device; the first loads of the own block's attention. -/
theorem part3_run {Q : (Σ' (v67 : FVec F S256x256 .f32) (v81 : FVec F S128x64 .f32) (v83 : FVec F S128x64 .bf16), FVec F S64x128 .bf16) → sProp 𝕄} {v4 : BitVec 32} :
    iprop(invs wq wo K ∗ owed (F := F) c 3 ∗ woPt qD 0 inb_S4x256x512_S1x256x512_0_0_0 c (woAll wo c) ∗ (∃ f, woPt fullShare 3 inb_S4x256x512_S1x256x512_3_0_0 (nxt c) f) ∗ reached ER (cell (nxt c) 16) 0 ∗ tick (F := F) c 13 (nxt c) 16 ∗ wqPt qC 0 inb_S4x512x256_S1x512x256_0_0_0 c (wqAll wq c) ∗ ins c X KT V ∗ ((owed (F := F) c 2 ∗ woPt qC 0 inb_S4x256x512_S1x256x512_0_0_0 c (woAll wo c) ∗ cred (tallyAt (cell c 13) () No) ∗ wqPt qC 0 inb_S4x512x256_S1x512x256_0_0_0 c (wqAll wq c) ∗ ins c X KT V) -∗ Q ⟨k0_pay3 X (up (wq (dv c 0))), k0_pay4 X (up (wq (dv c 0))) (rK KT 0 0 inb_S2x64x2048_S1x64x128_0_0_0) (rV V 0 0 inb_S2x128x1024_S1x128x64_0_0_0), k0_pay5 X (up (wq (dv c 0))), k0_pay6 (rK KT 0 128 inb_S2x64x2048_S1x64x128_0_0_128)⟩))
      ⊢ wp frame (wpE (defs₀ (F := F)) 𝒱₀ (c : Thread nD τ) none) Set.univ (k0_part3 xM (Memref.isWhole_whole _) wqS (Memref.isWhole_whole _) ktM (Memref.isWhole_whole _) vM (Memref.isWhole_whole _) woS (Memref.isWhole_whole _) oM (Memref.isWhole_whole _) wqM (Memref.isWhole_whole _) woM (Memref.isWhole_whole _) cc0_scratch2 cc0_scratch3 cc0_scratch4 cc0_scratch5 c v4) Q := by
  simp only [k0_part3_eq_skeleton]; unfold k0_part3_skel
  simp only [Prog.lift, Prog.bind_op, Prog.bind_ret, Prog.pure_eq_ret]
  unfold tick
  iintro ⟨#HI, HO, Ho, D1, #R1, ⟨A1, #B1, C1⟩, Hq, Hin, Hk⟩
  ihave Ho := (wo_two' _ _ _ _).1 $$ Ho
  icases Ho with ⟨HoB, Ho⟩
  iapply (push_wo wq wo K (dev6_eq c) (i := 0) (j := 3) (s := 13) (r := 16) (n := 2) (by decide) (by decide) (hd0n c) rfl rfl rfl rfl) $$ [HoB D1 HO A1 C1]
  · isplitr; · iexact HI
    isplitl [HoB]; · iexact HoB
    isplitl [D1]; · iexact D1
    isplitl [HO]; · iexact HO
    isplitl [A1]; · iexact A1
    isplitr; · iexact B1
    isplitl [C1]; · iexact C1
    iexact R1
  iintro ⟨E1, HO⟩
  iapply load_x $$ Hin
  iintro Hin
  iapply load_wq $$ Hq
  iintro Hq
  iapply load_k $$ Hin
  iintro Hin
  iapply load_v $$ Hin
  iintro Hin
  iapply load_k $$ Hin
  iintro Hin
  rw [wp_ret]; imodintro
  iapply Hk
  isplitl [HO]; · iexact HO
  isplitl [Ho]; · iexact Ho
  isplitl [E1]; · iexact E1
  isplitl [Hq]; · iexact Hq
  iexact Hin

/-- The previous device's `Wq` block has come in and goes on to the next; then the next device's `Wo` block comes in. -/
theorem part7_run {Q : PUnit → sProp 𝕄} {v4 v7 : BitVec 32} :
    iprop(invs wq wo K ∗ levAts L lv ∗ owed (F := F) c 2 ∗ cred (tallyAt (cell c 9) () Nq) ∗ atPos ER (cell c 9) 0 ∅ 0 ∗ (∃ f, wqPt fullShare 2 inb_S4x512x256_S1x512x256_2_0_0 (nxt c) f) ∗ reached ER (cell (nxt c) 11) 0 ∗ tick (F := F) c 8 (nxt c) 11 ∗ cred (tallyAt (cell c 15) () No) ∗ atPos ER (cell c 15) 0 ∅ 0 ∗ ((owed (F := F) c 1 ∗ atPos ER (cell c 9) (0 + 1) ∅ 0 ∗ atPos ER (cell c 15) (0 + 1) ∅ 0 ∗ wqPt qD 3 inb_S4x512x256_S1x512x256_3_0_0 c (wqAll wq c) ∗ woPt fullShare 1 inb_S4x256x512_S1x256x512_1_0_0 c (woAll wo c) ∗ cred (tallyAt (cell c 8) () Nq)) -∗ Q ⟨⟩))
      ⊢ wp frame (wpE (defs₀ (F := F)) 𝒱₀ (c : Thread nD τ) none) Set.univ (k0_part7 xM (Memref.isWhole_whole _) wqS (Memref.isWhole_whole _) ktM (Memref.isWhole_whole _) vM (Memref.isWhole_whole _) woS (Memref.isWhole_whole _) oM (Memref.isWhole_whole _) wqM (Memref.isWhole_whole _) woM (Memref.isWhole_whole _) cc0_scratch2 cc0_scratch3 cc0_scratch4 cc0_scratch5 c v4 v7) Q := by
  simp only [k0_part7_eq_skeleton]; unfold k0_part7_skel
  simp only [Prog.lift, Prog.bind_op, Prog.bind_ret, Prog.pure_eq_ret]
  unfold tick
  iintro ⟨#HI, #Hlev, HO, C9, P9, D1, #R1, ⟨A1, #B1, C1⟩, C15, P15, Hk⟩
  iapply (wait_step wq wo K (m := 9) (by decide) (by decide) (n := 2) (low2 c) (dst := wqV 3 inb_S4x512x256_S1x512x256_3_0_0) rfl) $$ [C9 HO P9]
  · isplitr; · iexact HI
    isplitr; · iexact Hlev
    isplitl [C9]; · iexact C9
    isplitl [HO]; · iexact HO
    iexact P9
  iintro ⟨HO, P9, Hq⟩
  ihave Hq := (Entails.of_eq (pay9 wq wo c)) $$ Hq
  ihave Hq := (wq_two 3 inb_S4x512x256_S1x512x256_3_0_0 c (wqAll wq c)).1 $$ Hq
  icases Hq with ⟨HqA, Hq⟩
  iapply (push_wq wq wo K (dev7_eq c) (i := 3) (j := 2) (s := 8) (r := 11) (n := 1) (by decide) (by decide) (by decide) (by decide) (hd3n c) rfl rfl rfl rfl) $$ [HqA D1 HO A1 C1]
  · isplitr; · iexact HI
    isplitl [HqA]; · iexact HqA
    isplitl [D1]; · iexact D1
    isplitl [HO]; · iexact HO
    isplitl [A1]; · iexact A1
    isplitr; · iexact B1
    isplitl [C1]; · iexact C1
    iexact R1
  iintro ⟨E1, HO⟩
  iapply (wait_step wq wo K (m := 15) (by decide) (by decide) (n := 1) (low1 c) (dst := woV 1 inb_S4x256x512_S1x256x512_1_0_0) rfl) $$ [C15 HO P15]
  · isplitr; · iexact HI
    isplitr; · iexact Hlev
    isplitl [C15]; · iexact C15
    isplitl [HO]; · iexact HO
    iexact P15
  iintro ⟨HO, P15, Ho⟩
  ihave Ho := (Entails.of_eq (pay15 wq wo c)) $$ Ho
  rw [wp_ret]; imodintro
  iapply Hk
  isplitl [HO]; · iexact HO
  isplitl [P9]; · iexact P9
  isplitl [P15]; · iexact P15
  isplitl [Hq]; · iexact Hq
  isplitl [Ho]; · iexact Ho
  iexact E1

/-- That `Wo` block goes on to the previous device, whose own has come in too; the first loads of the next block's attention. -/
theorem part8_run {Q : (Σ' (v235 : FVec F S256x256 .f32) (v249 : FVec F S128x64 .f32), FVec F S128x64 .bf16) → sProp 𝕄} {v4 : BitVec 32} :
    iprop(invs wq wo K ∗ levAts L lv ∗ owed (F := F) c 1 ∗ woPt fullShare 1 inb_S4x256x512_S1x256x512_1_0_0 c (woAll wo c) ∗ (∃ f, woPt fullShare 2 inb_S4x256x512_S1x256x512_2_0_0 (prv c) f) ∗ reached ER (cell (prv c) 17) 0 ∗ tick (F := F) c 14 (prv c) 17 ∗ cred (tallyAt (cell c 16) () No) ∗ atPos ER (cell c 16) 0 ∅ 0 ∗ wqPt qD 3 inb_S4x512x256_S1x512x256_3_0_0 c (wqAll wq c) ∗ ins c X KT V ∗ ((owed (F := F) c 0 ∗ woPt qD 1 inb_S4x256x512_S1x256x512_1_0_0 c (woAll wo c) ∗ cred (tallyAt (cell c 14) () No) ∗ atPos ER (cell c 16) (0 + 1) ∅ 0 ∗ woPt fullShare 3 inb_S4x256x512_S1x256x512_3_0_0 c (woAll wo c) ∗ wqPt qD 3 inb_S4x512x256_S1x512x256_3_0_0 c (wqAll wq c) ∗ ins c X KT V) -∗ Q ⟨k0_pay19 X (up (wq (dv c 3))), k0_pay20 X (up (wq (dv c 3))) (rK KT 0 1536 inb_S2x64x2048_S1x64x128_0_0_1536) (rV V 0 768 inb_S2x128x1024_S1x128x64_0_0_768), k0_pay21 X (up (wq (dv c 3)))⟩))
      ⊢ wp frame (wpE (defs₀ (F := F)) 𝒱₀ (c : Thread nD τ) none) Set.univ (k0_part8 xM (Memref.isWhole_whole _) wqS (Memref.isWhole_whole _) ktM (Memref.isWhole_whole _) vM (Memref.isWhole_whole _) woS (Memref.isWhole_whole _) oM (Memref.isWhole_whole _) wqM (Memref.isWhole_whole _) woM (Memref.isWhole_whole _) cc0_scratch2 cc0_scratch3 cc0_scratch4 cc0_scratch5 c v4) Q := by
  simp only [k0_part8_eq_skeleton]; unfold k0_part8_skel
  simp only [Prog.lift, Prog.bind_op, Prog.bind_ret, Prog.pure_eq_ret]
  unfold tick
  iintro ⟨#HI, #Hlev, HO, Ho, D1, #R1, ⟨A1, #B1, C1⟩, C16, P16, Hq, Hin, Hk⟩
  ihave Ho := (wo_two _ _ _ _).1 $$ Ho
  icases Ho with ⟨HoA, Ho⟩
  iapply (push_wo wq wo K (dev8_eq c) (i := 1) (j := 2) (s := 14) (r := 17) (n := 0) (by decide) (by decide) (hd1p c) rfl rfl rfl rfl) $$ [HoA D1 HO A1 C1]
  · isplitr; · iexact HI
    isplitl [HoA]; · iexact HoA
    isplitl [D1]; · iexact D1
    isplitl [HO]; · iexact HO
    isplitl [A1]; · iexact A1
    isplitr; · iexact B1
    isplitl [C1]; · iexact C1
    iexact R1
  iintro ⟨E1, HO⟩
  iapply (wait_step wq wo K (m := 16) (by decide) (by decide) (n := 0) (fun j hj => absurd hj (Nat.not_lt_zero j)) (dst := woV 3 inb_S4x256x512_S1x256x512_3_0_0) rfl) $$ [C16 HO P16]
  · isplitr; · iexact HI
    isplitr; · iexact Hlev
    isplitl [C16]; · iexact C16
    isplitl [HO]; · iexact HO
    iexact P16
  iintro ⟨HO, P16, Ho3⟩
  ihave Ho3 := (Entails.of_eq (pay16 wq wo c)) $$ Ho3
  iapply load_x $$ Hin
  iintro Hin
  iapply load_wq $$ Hq
  iintro Hq
  iapply load_k $$ Hin
  iintro Hin
  iapply load_v $$ Hin
  iintro Hin
  rw [wp_ret]; imodintro
  iapply Hk
  isplitl [HO]; · iexact HO
  isplitl [Ho]; · iexact Ho
  isplitl [E1]; · iexact E1
  isplitl [P16]; · iexact P16
  isplitl [Ho3]; · iexact Ho3
  isplitl [Hq]; · iexact Hq
  iexact Hin

/-- The next device's `Wq` block has come in; the first loads of its attention. -/
theorem part12_run {Q : (Σ' (v368 : FVec F S256x256 .f32) (v382 : FVec F S128x64 .f32) (v388 : FVec F S128x64 .bf16) (v390 : FVec F S128x128 .f32) (v391 : FVec F S128x128 .bf16), FVec F S128x64 .f32) → sProp 𝕄} :
    iprop(invs wq wo K ∗ levAts L lv ∗ owed (F := F) c 0 ∗ cred (tallyAt (cell c 10) () Nq) ∗ atPos ER (cell c 10) 0 ∅ 0 ∗ ins c X KT V ∗ ((owed (F := F) c 0 ∗ atPos ER (cell c 10) (0 + 1) ∅ 0 ∗ wqPt fullShare 1 inb_S4x512x256_S1x512x256_1_0_0 c (wqAll wq c) ∗ ins c X KT V) -∗ Q ⟨k0_pay33 X (up (wq (dv c 1))), k0_pay34 X (up (wq (dv c 1))) (rK KT 0 512 inb_S2x64x2048_S1x64x128_0_0_512) (rV V 0 256 inb_S2x128x1024_S1x128x64_0_0_256), k0_pay35 (rV V 0 320 inb_S2x128x1024_S1x128x64_0_0_320), k0_pay36 X (up (wq (dv c 1))) (rK KT 0 640 inb_S2x64x2048_S1x64x128_0_0_640), k0_pay37 X (up (wq (dv c 1))) (rK KT 0 640 inb_S2x64x2048_S1x64x128_0_0_640), (constant S128x64 .f32 0x00000000#32)⟩))
      ⊢ wp frame (wpE (defs₀ (F := F)) 𝒱₀ (c : Thread nD τ) none) Set.univ (k0_part12 xM (Memref.isWhole_whole _) wqS (Memref.isWhole_whole _) ktM (Memref.isWhole_whole _) vM (Memref.isWhole_whole _) woS (Memref.isWhole_whole _) oM (Memref.isWhole_whole _) wqM (Memref.isWhole_whole _) woM (Memref.isWhole_whole _) cc0_scratch2 cc0_scratch3 cc0_scratch4 cc0_scratch5) Q := by
  simp only [k0_part12_eq_skeleton]; unfold k0_part12_skel
  simp only [Prog.lift, Prog.bind_op, Prog.bind_ret, Prog.pure_eq_ret]
  iintro ⟨#HI, #Hlev, HO, C1, P1, Hin, Hk⟩
  iapply (wait_step wq wo K (m := 10) (by decide) (by decide) (n := 0) (fun j hj => absurd hj (Nat.not_lt_zero j)) (dst := wqV 1 inb_S4x512x256_S1x512x256_1_0_0) rfl) $$ [C1 HO P1]
  · isplitr; · iexact HI
    isplitr; · iexact Hlev
    isplitl [C1]; · iexact C1
    isplitl [HO]; · iexact HO
    iexact P1
  iintro ⟨HO, P1, Hq⟩
  ihave Hq := (Entails.of_eq (pay10 wq wo c)) $$ Hq
  iapply load_x $$ Hin
  iintro Hin
  iapply load_wq $$ Hq
  iintro Hq
  iapply load_k $$ Hin
  iintro Hin
  iapply load_v $$ Hin
  iintro Hin
  iapply load_k $$ Hin
  iintro Hin
  iapply load_v $$ Hin
  iintro Hin
  rw [wp_ret]; imodintro
  iapply Hk
  isplitl [HO]; · iexact HO
  isplitl [P1]; · iexact P1
  isplitl [Hq]; · iexact Hq
  iexact Hin

/-- The last loads of that block's attention; the opposite device's `Wq` block comes in. -/
theorem part15_run {Q : (Σ' (v488 : FVec F S256x512 .f32), BitVec 32) → sProp 𝕄} {v4 : BitVec 32} {v355 : FVec F S256x512 .f32} {v368 : FVec F S256x256 .f32} {v425 : FVec F S128x256 .f32} {v439 : FVec F S128x64 .f32} {v453 : FVec F S128x64 .f32} {v463 : FVec F S128x64 .f32} {v465 : FVec F S128x1 .f32} :
    iprop(invs wq wo K ∗ levAts L lv ∗ owed (F := F) c 0 ∗ cred (tallyAt (cell c 11) () Nq) ∗ atPos ER (cell c 11) 0 ∅ 0 ∗ woPt qD 1 inb_S4x256x512_S1x256x512_1_0_0 c (woAll wo c) ∗ ins c X KT V ∗ ((owed (F := F) c 0 ∗ atPos ER (cell c 11) (0 + 1) ∅ 0 ∗ wqPt fullShare 2 inb_S4x512x256_S1x512x256_2_0_0 c (wqAll wq c) ∗ woPt qD 1 inb_S4x256x512_S1x256x512_1_0_0 c (woAll wo c) ∗ ins c X KT V) -∗ Q ⟨k0_pay46 v355 v368 v425 v439 v453 v463 v465 (rK KT 1 896 inb_S2x64x2048_S1x64x128_1_0_896) (rV V 1 448 inb_S2x128x1024_S1x128x64_1_0_448) (up (wo (dv c 1))), 1#32⟩))
      ⊢ wp frame (wpE (defs₀ (F := F)) 𝒱₀ (c : Thread nD τ) none) Set.univ (k0_part15 xM (Memref.isWhole_whole _) wqS (Memref.isWhole_whole _) ktM (Memref.isWhole_whole _) vM (Memref.isWhole_whole _) woS (Memref.isWhole_whole _) oM (Memref.isWhole_whole _) wqM (Memref.isWhole_whole _) woM (Memref.isWhole_whole _) cc0_scratch2 cc0_scratch3 cc0_scratch4 cc0_scratch5 v4 v355 v368 v425 v439 v453 v463 v465) Q := by
  simp only [k0_part15_eq_skeleton]; unfold k0_part15_skel
  simp only [Prog.lift, Prog.bind_op, Prog.bind_ret, Prog.pure_eq_ret]
  iintro ⟨#HI, #Hlev, HO, C1, P1, Ho, Hin, Hk⟩
  iapply load_k $$ Hin
  iintro Hin
  iapply load_v $$ Hin
  iintro Hin
  iapply load_wo $$ Ho
  iintro Ho
  iapply (wait_step wq wo K (m := 11) (by decide) (by decide) (n := 0) (fun j hj => absurd hj (Nat.not_lt_zero j)) (dst := wqV 2 inb_S4x512x256_S1x512x256_2_0_0) rfl) $$ [C1 HO P1]
  · isplitr; · iexact HI
    isplitr; · iexact Hlev
    isplitl [C1]; · iexact C1
    isplitl [HO]; · iexact HO
    iexact P1
  iintro ⟨HO, P1, Hq⟩
  ihave Hq := (Entails.of_eq (pay11 wq wo c)) $$ Hq
  rw [wp_ret]; imodintro
  iapply Hk
  isplitl [HO]; · iexact HO
  isplitl [P1]; · iexact P1
  isplitl [Hq]; · iexact Hq
  isplitl [Ho]; · iexact Ho
  iexact Hin

/-- The opposite device's `Wo` block comes in; the first loads of its attention. -/
theorem part16_run {Q : (Σ' (v509 : FVec F S256x256 .f32) (v523 : FVec F S128x64 .f32) (v525 : FVec F S128x64 .bf16) (v527 : FVec F S64x128 .bf16), FVec F S128x64 .bf16) → sProp 𝕄} {v7 v8 : BitVec 32} :
    iprop(invs wq wo K ∗ levAts L lv ∗ owed (F := F) c 0 ∗ cred (tallyAt (cell c 17) () No) ∗ atPos ER (cell c 17) 0 ∅ 0 ∗ wqPt fullShare 2 inb_S4x512x256_S1x512x256_2_0_0 c (wqAll wq c) ∗ ins c X KT V ∗ ((owed (F := F) c 0 ∗ atPos ER (cell c 17) (0 + 1) ∅ 0 ∗ woPt fullShare 2 inb_S4x256x512_S1x256x512_2_0_0 c (woAll wo c) ∗ wqPt fullShare 2 inb_S4x512x256_S1x512x256_2_0_0 c (wqAll wq c) ∗ ins c X KT V) -∗ Q ⟨k0_pay47 X (up (wq (dv c 2))), k0_pay48 X (up (wq (dv c 2))) (rK KT 0 1024 inb_S2x64x2048_S1x64x128_0_0_1024) (rV V 0 512 inb_S2x128x1024_S1x128x64_0_0_512), k0_pay49 X (up (wq (dv c 2))), k0_pay50 (rK KT 0 1152 inb_S2x64x2048_S1x64x128_0_0_1152), k0_pay51 (rV V 0 576 inb_S2x128x1024_S1x128x64_0_0_576)⟩))
      ⊢ wp frame (wpE (defs₀ (F := F)) 𝒱₀ (c : Thread nD τ) none) Set.univ (k0_part16 xM (Memref.isWhole_whole _) wqS (Memref.isWhole_whole _) ktM (Memref.isWhole_whole _) vM (Memref.isWhole_whole _) woS (Memref.isWhole_whole _) oM (Memref.isWhole_whole _) wqM (Memref.isWhole_whole _) woM (Memref.isWhole_whole _) cc0_scratch2 cc0_scratch3 cc0_scratch4 cc0_scratch5 v7 v8) Q := by
  simp only [k0_part16_eq_skeleton]; unfold k0_part16_skel
  simp only [Prog.lift, Prog.bind_op, Prog.bind_ret, Prog.pure_eq_ret]
  iintro ⟨#HI, #Hlev, HO, C1, P1, Hq, Hin, Hk⟩
  iapply (wait_step wq wo K (m := 17) (by decide) (by decide) (n := 0) (fun j hj => absurd hj (Nat.not_lt_zero j)) (dst := woV 2 inb_S4x256x512_S1x256x512_2_0_0) rfl) $$ [C1 HO P1]
  · isplitr; · iexact HI
    isplitr; · iexact Hlev
    isplitl [C1]; · iexact C1
    isplitl [HO]; · iexact HO
    iexact P1
  iintro ⟨HO, P1, Ho⟩
  ihave Ho := (Entails.of_eq (pay17 wq wo c)) $$ Ho
  iapply load_x $$ Hin
  iintro Hin
  iapply load_wq $$ Hq
  iintro Hq
  iapply load_k $$ Hin
  iintro Hin
  iapply load_v $$ Hin
  iintro Hin
  iapply load_k $$ Hin
  iintro Hin
  iapply load_v $$ Hin
  iintro Hin
  rw [wp_ret]; imodintro
  iapply Hk
  isplitl [HO]; · iexact HO
  isplitl [P1]; · iexact P1
  isplitl [Ho]; · iexact Ho
  isplitl [Hq]; · iexact Hq
  iexact Hin

/-- The own blocks' first copies are done reading. -/
theorem part20_run {Q : PUnit → sProp 𝕄} :
    iprop(invs wq wo K ∗ levAts L lv ∗ owed (F := F) c 0 ∗ cred (tallyAt (cell c 6) () Nq) ∗ atPos ER (cell c 6) 0 ∅ 0 ∗ cred (tallyAt (cell c 12) () No) ∗ atPos ER (cell c 12) 0 ∅ 0 ∗ cred (tallyAt (cell c 7) () Nq) ∗ atPos ER (cell c 7) 0 ∅ 0 ∗ ((owed (F := F) c 0 ∗ atPos ER (cell c 6) (0 + 1) ∅ 0 ∗ atPos ER (cell c 12) (0 + 1) ∅ 0 ∗ atPos ER (cell c 7) (0 + 1) ∅ 0 ∗ wqPt qA 0 inb_S4x512x256_S1x512x256_0_0_0 c (wqAll wq c) ∗ woPt qA 0 inb_S4x256x512_S1x256x512_0_0_0 c (woAll wo c) ∗ wqPt qB 0 inb_S4x512x256_S1x512x256_0_0_0 c (wqAll wq c)) -∗ Q ⟨⟩))
      ⊢ wp frame (wpE (defs₀ (F := F)) 𝒱₀ (c : Thread nD τ) none) Set.univ (k0_part20 xM (Memref.isWhole_whole _) wqS (Memref.isWhole_whole _) ktM (Memref.isWhole_whole _) vM (Memref.isWhole_whole _) woS (Memref.isWhole_whole _) oM (Memref.isWhole_whole _) wqM (Memref.isWhole_whole _) woM (Memref.isWhole_whole _) cc0_scratch2 cc0_scratch3 cc0_scratch4 cc0_scratch5) Q := by
  simp only [k0_part20_eq_skeleton]; unfold k0_part20_skel
  simp only [Prog.lift, Prog.bind_op, Prog.bind_ret, Prog.pure_eq_ret]
  iintro ⟨#HI, #Hlev, HO, C1, P1, C2, P2, C3, P3, Hk⟩
  iapply (wait_step wq wo K (m := 6) (by decide) (by decide) (n := 0) (fun j hj => absurd hj (Nat.not_lt_zero j)) (dst := wqV 0 inb_S4x512x256_S1x512x256_0_0_0) rfl) $$ [C1 HO P1]
  · isplitr; · iexact HI
    isplitr; · iexact Hlev
    isplitl [C1]; · iexact C1
    isplitl [HO]; · iexact HO
    iexact P1
  iintro ⟨HO, P1, H1⟩
  ihave H1 := (Entails.of_eq (pay6 wq wo c)) $$ H1
  iapply (wait_step wq wo K (m := 12) (by decide) (by decide) (n := 0) (fun j hj => absurd hj (Nat.not_lt_zero j)) (dst := woV 0 inb_S4x256x512_S1x256x512_0_0_0) rfl) $$ [C2 HO P2]
  · isplitr; · iexact HI
    isplitr; · iexact Hlev
    isplitl [C2]; · iexact C2
    isplitl [HO]; · iexact HO
    iexact P2
  iintro ⟨HO, P2, H2⟩
  ihave H2 := (Entails.of_eq (pay12 wq wo c)) $$ H2
  iapply (wait_step wq wo K (m := 7) (by decide) (by decide) (n := 0) (fun j hj => absurd hj (Nat.not_lt_zero j)) (dst := wqV 0 inb_S4x512x256_S1x512x256_0_0_0) rfl) $$ [C3 HO P3]
  · isplitr; · iexact HI
    isplitr; · iexact Hlev
    isplitl [C3]; · iexact C3
    isplitl [HO]; · iexact HO
    iexact P3
  iintro ⟨HO, P3, H3⟩
  ihave H3 := (Entails.of_eq (pay7 wq wo c)) $$ H3
  rw [wp_ret]; imodintro
  iapply Hk
  isplitl [HO]; · iexact HO
  isplitl [P1]; · iexact P1
  isplitl [P2]; · iexact P2
  isplitl [P3]; · iexact P3
  isplitl [H1]; · iexact H1
  isplitl [H2]; · iexact H2
  iexact H3

end Cert.KernelIdeal.Ring
-- ==== Proof.Run.lean ====
/-
The kernel's whole body on one device: from the device's buffers, tokens and credits to its result, with every semaphore
counter back at zero and both scratch buffers in one piece again.
-/
module

public import proofs.«01_k».proof.Proof.Body

@[expose] public section

noncomputable section

namespace Cert.KernelIdeal.Ring

open Cert.KernelIdeal Cert.KernelIdeal.Gen Cert.Slots
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝔓" => Prog (TpuEff nD τ sig (Elt F) Λ₀ Proc.tc)

variable {c : Dev nD} {X : Vec F S256x512 .bf16} {KT : Vec F S2x64x2048 .bf16} {V : Vec F S2x128x1024 .bf16}
variable (wq : Dev nD → Vec F S512x256 .bf16) (wo : Dev nD → Vec F S256x512 .bf16) (K : GSem nD τ sig → ℕ)

/-! ## The result's buffer -/

abbrev obox (k : ℕ) (h : ∀ a, (![k, 0, 0] : Fin 3 → ℕ) a + S1x128x512.size a ≤ S2x128x512.size a) : Rect S2x128x512 :=
  Rect.unit (s := S2x128x512) ![k, 0, 0] S1x128x512.size h

theorem obox_emb (k : Fin 2) (h) (z : Fin 1) (x : Fin 128) (y : Fin 512) :
    (oM.access (obox k.val h)).emb (ix3 z x y) = (ix3 k x y : S2x128x512.Idx) := by
  refine Shape.idx3_ext ?_ ?_ ?_
  · show k.val + 1 * z.val = k.val; omega
  · show 0 + 1 * x.val = x.val; omega
  · show 0 + 1 * y.val = y.val; omega

/-- The two stores cover the buffer. -/
theorem out_eq (f : Vec F S2x128x512 .bf16) (w0 w1 : Vec F S1x128x512 .bf16) (T : FVec F S256x512 .f32) (h0) (h1)
    (e0 : ∀ x y, w0 (ix3 (0 : Fin 1) x y) = outV T (ix3 (0 : Fin 2) x y)) (e1 : ∀ x y, w1 (ix3 (0 : Fin 1) x y) = outV T (ix3 (1 : Fin 2) x y)) :
    (oM.access (obox 1 h1)).write (Elt F) ((oM.access (obox 0 h0)).write (Elt F) f w0 Finset.univ) w1 Finset.univ = outV T := by
  funext i
  obtain ⟨b, x, y, rfl⟩ : ∃ (b : Fin 2) (x : Fin 128) (y : Fin 512), i = ix3 b x y := ⟨i 0, i 1, i 2, eq_ix3 i⟩
  by_cases hb : b = 1
  · subst hb
    exact (congrArg _ (obox_emb 1 h1 0 x y).symm).trans
      ((View.write_emb_of_mem (v := oM.access (obox 1 h1)) _ w1 (Finset.mem_univ (ix3 (0 : Fin 1) x y))).trans (e1 x y))
  · obtain rfl : b = 0 := by omega
    refine (View.write_of_not_mem (v := oM.access (obox 1 h1)) _ w1 _ fun hm => ?_).trans
      ((congrArg _ (obox_emb 0 h0 0 x y).symm).trans
        ((View.write_emb_of_mem (v := oM.access (obox 0 h0)) _ w0 (Finset.mem_univ (ix3 (0 : Fin 1) x y))).trans (e0 x y)))
    obtain ⟨j, -, hj⟩ := Finset.mem_map.mp hm
    rw [eq_ix3 j] at hj
    have hj' := (obox_emb 1 h1 (j 0) (j 1) (j 2)).symm.trans hj
    exact absurd (congrArg (fun t : S2x128x512.Idx => (t 0).val) hj') (by show ¬ (1 : ℕ) = 0; decide)

omit K in
/-- The last loads, and the result stored. -/
theorem part19_run {Q : PUnit → sProp 𝕄} {v488 : FVec F S256x512 .f32} {v509 : FVec F S256x256 .f32} {v566 : FVec F S128x256 .f32} {v580 : FVec F S128x64 .f32} {v594 : FVec F S128x64 .f32} {v600 : FVec F S128x64 .bf16} {v602 : FVec F S128x128 .f32} {v603 : FVec F S128x128 .bf16} :
    iprop(woPt fullShare 2 inb_S4x256x512_S1x256x512_2_0_0 c (woAll wo c) ∗ ins c X KT V ∗ (∃ f, oM.view.loc (c : Thread nD τ) ↦{fullShare} f)
        ∗ ((woPt fullShare 2 inb_S4x256x512_S1x256x512_2_0_0 c (woAll wo c) ∗ ins c X KT V ∗ (oM.view.loc (c : Thread nD τ) ↦{fullShare} (outV (k0_pay59 v488 v509 v566 v580 v594 v600 v602 v603 (rK KT 1 1408 inb_S2x64x2048_S1x64x128_1_0_1408) (rV V 1 704 inb_S2x128x1024_S1x128x64_1_0_704) (up (wo (dv c 2))))))) -∗ Q ⟨⟩))
      ⊢ wp frame (wpE (defs₀ (F := F)) 𝒱₀ (c : Thread nD τ) none) Set.univ (k0_part19 xM (Memref.isWhole_whole _) wqS (Memref.isWhole_whole _) ktM (Memref.isWhole_whole _) vM (Memref.isWhole_whole _) woS (Memref.isWhole_whole _) oM (Memref.isWhole_whole _) wqM (Memref.isWhole_whole _) woM (Memref.isWhole_whole _) cc0_scratch2 cc0_scratch3 cc0_scratch4 cc0_scratch5 v488 v509 v566 v580 v594 v600 v602 v603) Q := by
  simp only [k0_part19_eq_skeleton]; unfold k0_part19_skel
  simp only [Prog.lift, Prog.bind_op, Prog.bind_ret, Prog.pure_eq_ret]
  iintro ⟨Ho, Hin, ⟨%f, Hf⟩, Hk⟩
  iapply load_k $$ Hin
  iintro Hin
  iapply load_v $$ Hin
  iintro Hin
  iapply load_wo $$ Ho
  iintro Ho
  iapply (wp_load 𝒱₀ (c : Thread nD τ) none Set.univ (m := oM) (Finset.subset_univ _)) $$ Hf
  iintro Hf
  iapply (wp_store 𝒱₀ (c : Thread nD τ) none Set.univ (m := oM) (r := obox 0 inb_S2x128x512_S1x128x512_0_0_0) (Finset.subset_univ _)) $$ Hf
  iintro Hf
  iapply (wp_load 𝒱₀ (c : Thread nD τ) none Set.univ (m := oM) (Finset.subset_univ _)) $$ Hf
  iintro Hf
  iapply (wp_store 𝒱₀ (c : Thread nD τ) none Set.univ (m := oM) (r := obox 1 inb_S2x128x512_S1x128x512_1_0_0) (Finset.subset_univ _)) $$ Hf
  iintro Hf
  rw [wp_ret]; imodintro
  iapply Hk
  isplitl [Ho]; · iexact Ho
  isplitl [Hin]; · iexact Hin
  iapply (Entails.of_eq (congrArg (fun g => (oM.view.loc (c : Thread nD τ) ↦{fullShare} g : sProp 𝕄)) (out_eq f _ _
    (k0_pay59 v488 v509 v566 v580 v594 v600 v602 v603 (rK KT 1 1408 inb_S2x64x2048_S1x64x128_1_0_1408) (rV V 1 704 inb_S2x128x1024_S1x128x64_1_0_704) (up (wo (dv c 2)))) inb_S2x128x512_S1x128x512_0_0_0 inb_S2x128x512_S1x128x512_1_0_0 (cut0 _ 0) (cut1 _ 0))))
  iexact Hf

/-! ## The scratch buffers in four pieces -/

theorem inq : ∀ k : Fin 4, In 512 256 k.val
  | 0 => inb_S4x512x256_S1x512x256_0_0_0 | 1 => inb_S4x512x256_S1x512x256_1_0_0 | 2 => inb_S4x512x256_S1x512x256_2_0_0 | 3 => inb_S4x512x256_S1x512x256_3_0_0
theorem ino : ∀ k : Fin 4, In 256 512 k.val
  | 0 => inb_S4x256x512_S1x256x512_0_0_0 | 1 => inb_S4x256x512_S1x256x512_1_0_0 | 2 => inb_S4x256x512_S1x256x512_2_0_0 | 3 => inb_S4x256x512_S1x256x512_3_0_0

omit [FloatOps F] in
theorem wq_pieces (c : Dev nD) (f : Buf (Elt F) (wqM.view.loc (c : Thread nD τ))) :
    (wqM.view.loc (c : Thread nD τ) ↦{fullShare} f : sProp 𝕄) = iprop(wqPt fullShare 0 inb_S4x512x256_S1x512x256_0_0_0 c f ∗ wqPt fullShare 1 inb_S4x512x256_S1x512x256_1_0_0 c f ∗ wqPt fullShare 2 inb_S4x512x256_S1x512x256_2_0_0 c f ∗ wqPt fullShare 3 inb_S4x512x256_S1x512x256_3_0_0 c f) := by
  have h := pointsTo_biUnion (Val := Elt F) (U := UU) (Name := ℕ) (Ix := Unit) (Lvl := ℕ) (ℓ := wqM.view.loc (c : Thread nD τ)) (q := fullShare) (f := f) Finset.univ
    (fun k : Fin 4 => (wqV k.val (inq k)).view.set)
    (fun t _ t' _ hne => slot_disjoint wqM (inq t) (inq t') _ (fun e => hne (Fin.ext e)))
  rw [slot_cover wqM inq, show wqM.view.set = Finset.univ from View.set_whole _, bigSep_univ_eq_bigSepL [0, 1, 2, 3] (by decide) (by decide),
    bigSepL_cons_cons, bigSepL_cons_cons, bigSepL_cons_cons, bigSepL_singleton] at h
  exact h
omit [FloatOps F] in
theorem wo_pieces (c : Dev nD) (f : Buf (Elt F) (woM.view.loc (c : Thread nD τ))) :
    (woM.view.loc (c : Thread nD τ) ↦{fullShare} f : sProp 𝕄) = iprop(woPt fullShare 0 inb_S4x256x512_S1x256x512_0_0_0 c f ∗ woPt fullShare 1 inb_S4x256x512_S1x256x512_1_0_0 c f ∗ woPt fullShare 2 inb_S4x256x512_S1x256x512_2_0_0 c f ∗ woPt fullShare 3 inb_S4x256x512_S1x256x512_3_0_0 c f) := by
  have h := pointsTo_biUnion (Val := Elt F) (U := UU) (Name := ℕ) (Ix := Unit) (Lvl := ℕ) (ℓ := woM.view.loc (c : Thread nD τ)) (q := fullShare) (f := f) Finset.univ
    (fun k : Fin 4 => (woV k.val (ino k)).view.set)
    (fun t _ t' _ hne => slot_disjoint woM (ino t) (ino t') _ (fun e => hne (Fin.ext e)))
  rw [slot_cover woM ino, show woM.view.set = Finset.univ from View.set_whole _, bigSep_univ_eq_bigSepL [0, 1, 2, 3] (by decide) (by decide),
    bigSepL_cons_cons, bigSepL_cons_cons, bigSepL_cons_cons, bigSepL_singleton] at h
  exact h

omit [FloatOps F] in
theorem barT_of (c : Dev nD) : iprop((∃ f, wqPt fullShare 3 inb_S4x512x256_S1x512x256_3_0_0 c f) ∗ (∃ f, wqPt fullShare 2 inb_S4x512x256_S1x512x256_2_0_0 c f)
    ∗ (∃ f, woPt fullShare 3 inb_S4x256x512_S1x256x512_3_0_0 c f)
    ∗ reached ER (cell c 9) 0 ∗ reached ER (cell c 11) 0 ∗ reached ER (cell c 16) 0) ⊢ barT (F := F) (prv c) := by
  unfold barT; rw [nxt_prv]
omit [FloatOps F] in
theorem barF_of (c : Dev nD) : iprop((∃ f, wqPt fullShare 1 inb_S4x512x256_S1x512x256_1_0_0 c f) ∗ (∃ f, woPt fullShare 1 inb_S4x256x512_S1x256x512_1_0_0 c f)
    ∗ (∃ f, woPt fullShare 2 inb_S4x256x512_S1x256x512_2_0_0 c f)
    ∗ reached ER (cell c 10) 0 ∗ reached ER (cell c 15) 0 ∗ reached ER (cell c 17) 0) ⊢ barF (F := F) (nxt c) := by
  unfold barF; rw [prv_nxt]

/-- A cell whose only round is over gives its counter back, at zero. -/
theorem close_dma (c : Dev nD) {n : ℕ} (h : n < 18) (h6 : 6 ≤ n) :
    iprop(invs wq wo K ∗ atPos ER (cell c n h) (0 + 1) ∅ 0) ⊢ iprop(|={Set.univ}=> semVal (cell c n h) 0) :=
  (sep_mono (inv_dma wq wo K c h h6) .rfl).trans
    (Rounds.cell_close ER (rd (F := F) wq wo) (Set.mem_univ (K (cell c n h))) (fun h => h) (R := 0 + 1) (duties_later wq wo _))
theorem close_bar (c : Dev nD) :
    iprop(invs wq wo K ∗ atPos ER (barCell c) (0 + 1) ∅ 0) ⊢ iprop(|={Set.univ}=> semVal (barCell c) 0) :=
  (sep_mono (inv_bar wq wo K c) .rfl).trans
    (Rounds.cell_close ER (rd (F := F) wq wo) (Set.mem_univ (K (barCell c))) (fun h => h) (R := 0 + 1) (duties_later wq wo _))

/-! ## The device's share of the protocol's ghost state -/

/-- Its positions at its twelve copy cells, and that the cells are open. -/
def poss (c : Dev nD) : sProp 𝕄 := iprop(atPos ER (cell c 6) 0 ∅ 0 ∗ atPos ER (cell c 7) 0 ∅ 0 ∗ atPos ER (cell c 8) 0 ∅ 0 ∗ atPos ER (cell c 9) 0 ∅ 0 ∗ atPos ER (cell c 10) 0 ∅ 0 ∗ atPos ER (cell c 11) 0 ∅ 0 ∗ atPos ER (cell c 12) 0 ∅ 0 ∗ atPos ER (cell c 13) 0 ∅ 0 ∗ atPos ER (cell c 14) 0 ∅ 0 ∗ atPos ER (cell c 15) 0 ∅ 0 ∗ atPos ER (cell c 16) 0 ∅ 0 ∗ atPos ER (cell c 17) 0 ∅ 0)
def rchs (c : Dev nD) : sProp 𝕄 := iprop(reached ER (cell c 6) 0 ∗ reached ER (cell c 7) 0 ∗ reached ER (cell c 8) 0 ∗ reached ER (cell c 9) 0 ∗ reached ER (cell c 10) 0 ∗ reached ER (cell c 11) 0 ∗ reached ER (cell c 12) 0 ∗ reached ER (cell c 13) 0 ∗ reached ER (cell c 14) 0 ∗ reached ER (cell c 15) 0 ∗ reached ER (cell c 16) 0 ∗ reached ER (cell c 17) 0)
/-- The right to pay its source cells, and the landing cells that it copies into. -/
def toks (c : Dev nD) : sProp 𝕄 := iprop(dutyTok ER (cell c 6) 0 true ∗ dutyTok ER (cell c 7) 0 true ∗ dutyTok ER (cell c 8) 0 true ∗ dutyTok ER (cell c 12) 0 true ∗ dutyTok ER (cell c 13) 0 true ∗ dutyTok ER (cell c 14) 0 true)
def toksR (c : Dev nD) : sProp 𝕄 := iprop(dutyTok ER (cell (nxt c) 9) 0 true ∗ dutyTok ER (cell (prv c) 10) 0 true ∗ dutyTok ER (cell (nxt c) 11) 0 true ∗ dutyTok ER (cell (prv c) 15) 0 true ∗ dutyTok ER (cell (nxt c) 16) 0 true ∗ dutyTok ER (cell (prv c) 17) 0 true)
/-- Its right to wait for its landing cells. -/
def crds (c : Dev nD) : sProp 𝕄 := iprop(cred (tallyAt (cell c 9) () Nq) ∗ cred (tallyAt (cell c 10) () Nq) ∗ cred (tallyAt (cell c 11) () Nq) ∗ cred (tallyAt (cell c 15) () No) ∗ cred (tallyAt (cell c 16) () No) ∗ cred (tallyAt (cell c 17) () No))
/-- Its twelve copy counters, at zero. -/
def zeros (c : Dev nD) : sProp 𝕄 := iprop(semVal (cell c 6) 0 ∗ semVal (cell c 7) 0 ∗ semVal (cell c 8) 0 ∗ semVal (cell c 9) 0 ∗ semVal (cell c 10) 0 ∗ semVal (cell c 11) 0 ∗ semVal (cell c 12) 0 ∗ semVal (cell c 13) 0 ∗ semVal (cell c 14) 0 ∗ semVal (cell c 15) 0 ∗ semVal (cell c 16) 0 ∗ semVal (cell c 17) 0)
/-- Its share of the barrier. -/
def barGhost (c : Dev nD) : sProp 𝕄 :=
  iprop(dutyTok ER (barCell (prv c)) 0 true ∗ reached ER (barCell (prv c)) 0 ∗ dutyTok ER (barCell (nxt c)) 0 false ∗ reached ER (barCell (nxt c)) 0
    ∗ cred (tallyAt (barCell c) () 2) ∗ atPos ER (barCell c) 0 ∅ 0)
/-- The scratch buffers, whole. -/
def scr (c : Dev nD) : sProp 𝕄 :=
  iprop((∃ f, wqM.view.loc (c : Thread nD τ) ↦{fullShare} f) ∗ (∃ f, woM.view.loc (c : Thread nD τ) ↦{fullShare} f))

instance rchs_persistent (c : Dev nD) : BI.Persistent (rchs (F := F) c) := by unfold rchs; infer_instance

/-- The device's result. -/
abbrev resV (wq : Dev nD → Vec F S512x256 .bf16) (wo : Dev nD → Vec F S256x512 .bf16) (c : Dev nD) (X : Vec F S256x512 .bf16) (KT : Vec F S2x64x2048 .bf16) (V : Vec F S2x128x1024 .bf16) :
    Vec F S2x128x512 .bf16 := outV (total X KT V (fun s => up (wq (dv c s))) (fun s => up (wo (dv c s))))

set_option maxHeartbeats 4000000 in
/-- The whole body. -/
theorem body_run {Q : PUnit → sProp 𝕄} :
    iprop(invs wq wo K ∗ levAts L lv ∗ owed (F := F) c 8 ∗ barGhost c ∗ poss c ∗ rchs c ∗ toks c ∗ toksR c ∗ crds c
        ∗ ins c X KT V ∗ own wq wo c ∗ (∃ f, oM.view.loc (c : Thread nD τ) ↦{fullShare} f) ∗ scr c
        ∗ ((owed (F := F) c 0 ∗ zeros c ∗ semVal (barCell c) 0 ∗ ins c X KT V ∗ own wq wo c
            ∗ (oM.view.loc (c : Thread nD τ) ↦{fullShare} (resV wq wo c X KT V)) ∗ scr c) -∗ Q ⟨⟩))
      ⊢ wp frame (wpE (defs₀ (F := F)) 𝒱₀ (c : Thread nD τ) none) Set.univ (cc0__body xM (Memref.isWhole_whole _) wqS (Memref.isWhole_whole _) ktM (Memref.isWhole_whole _) vM (Memref.isWhole_whole _) woS (Memref.isWhole_whole _) oM (Memref.isWhole_whole _) wqM (Memref.isWhole_whole _) woM (Memref.isWhole_whole _) cc0_scratch2 cc0_scratch3 cc0_scratch4 cc0_scratch5) Q := by
  simp only [cc0__body_eq_skeleton]; unfold cc0__body_skel
  iintro ⟨#HI, #Hlev, HO, HB, Hpos, #Hr, Htok, HtokR, Hcrd, Hin, Hown, Hf, Hscr, Hk⟩
  unfold barGhost poss rchs toks toksR crds scr
  icases HB with ⟨Tb1, #Rb1, Tb2, #Rb2, CB, PB⟩
  icases Hpos with ⟨P6, P7, P8, P9, P10, P11, P12, P13, P14, P15, P16, P17⟩
  icases Hr with ⟨#R6, #R7, #R8, #R9, #R10, #R11, #R12, #R13, #R14, #R15, #R16, #R17⟩
  icases Htok with ⟨S6, S7, S8, S12, S13, S14⟩
  icases HtokR with ⟨L9, L10, L11, L15, L16, L17⟩
  icases Hcrd with ⟨C9, C10, C11, C15, C16, C17⟩
  icases Hscr with ⟨⟨%f, Hq⟩, ⟨%g, Ho⟩⟩
  ihave Hq := (Entails.of_eq (wq_pieces c f)) $$ Hq
  icases Hq with ⟨Hq0, Hb1, Hb2, Hb3⟩
  ihave Ho := (Entails.of_eq (wo_pieces c g)) $$ Ho
  icases Ho with ⟨Ho0, Hc1, Hc2, Hc3⟩
  rw [wp_bind]
  iapply (part1_run wq wo K)
  isplitr; · iexact HI
  isplitr; · iexact Hlev
  isplitl [HO]; · iexact HO
  isplitl [Tb1 Hb3 Hb2 Hc3]
  · isplitl [Tb1]; · iexact Tb1
    isplitr; · iexact Rb1
    iapply (barT_of c)
    isplitl [Hb3]; · iexists _; iexact Hb3
    isplitl [Hb2]; · iexists _; iexact Hb2
    isplitl [Hc3]; · iexists _; iexact Hc3
    isplitr; · iexact R9
    isplitr; · iexact R11
    iexact R16
  isplitl [Tb2 Hb1 Hc1 Hc2]
  · isplitl [Tb2]; · iexact Tb2
    isplitr; · iexact Rb2
    iapply (barF_of c)
    isplitl [Hb1]; · iexists _; iexact Hb1
    isplitl [Hc1]; · iexists _; iexact Hc1
    isplitl [Hc2]; · iexists _; iexact Hc2
    isplitr; · iexact R10
    isplitr; · iexact R15
    iexact R17
  isplitl [CB PB]
  · isplitl [CB]; · iexact CB
    iexact PB
  isplitl [Hown]; · iexact Hown
  isplitl [Hq0]; · iexists _; iexact Hq0
  isplitl [Ho0]; · iexists _; iexact Ho0
  iintro %v4 %v7 %v23 ⟨HO, PB, HF, HT, Hown, Hq0, Ho0⟩
  dsimp only
  unfold barF barT
  icases HF with ⟨F1, F2, F3, #Rp10, #Rp15, #Rp17⟩
  icases HT with ⟨T3, T2, To3, #Rn9, #Rn11, #Rn16⟩
  rw [wp_bind]
  iapply (part2_run wq wo K)
  isplitr; · iexact HI
  isplitl [HO]; · iexact HO
  isplitl [Hq0]; · iexact Hq0
  isplitl [Ho0]; · iexact Ho0
  isplitl [T3]; · iexact T3
  isplitr; · iexact Rn9
  isplitl [S6 L9]
  · unfold tick; isplitl [S6]; · iexact S6
    isplitr; · iexact R6
    iexact L9
  isplitl [F2]; · iexact F2
  isplitr; · iexact Rp15
  isplitl [S12 L15]
  · unfold tick; isplitl [S12]; · iexact S12
    isplitr; · iexact R12
    iexact L15
  isplitl [F1]; · iexact F1
  isplitr; · iexact Rp10
  isplitl [S7 L10]
  · unfold tick; isplitl [S7]; · iexact S7
    isplitr; · iexact R7
    iexact L10
  iintro ⟨HO, Hq0, Ho0, C6, C12, C7⟩
  dsimp only
  rw [wp_bind]
  iapply (part3_run wq wo K)
  isplitr; · iexact HI
  isplitl [HO]; · iexact HO
  isplitl [Ho0]; · iexact Ho0
  isplitl [To3]; · iexact To3
  isplitr; · iexact Rn16
  isplitl [S13 L16]
  · unfold tick; isplitl [S13]; · iexact S13
    isplitr; · iexact R13
    iexact L16
  isplitl [Hq0]; · iexact Hq0
  isplitl [Hin]; · iexact Hin
  iintro ⟨HO, Ho0, C13, Hq0, Hin⟩
  dsimp only
  rw [wp_bind]
  iapply (part4_reads _ _ _ _)
  isplitl [HO Hin]
  · isplitl [HO]; · iexact HO
    iexact Hin
  iintro ⟨HO, Hin⟩
  dsimp only
  rw [wp_bind]
  iapply (part5_reads _ _ _ _ _ _ _)
  isplitl [HO Hin]
  · isplitl [HO]; · iexact HO
    iexact Hin
  iintro ⟨HO, Hin⟩
  dsimp only
  rw [wp_bind]
  iapply (part6_reads _ _ _ _ _ _ _ _ _)
  isplitl [Ho0 Hin]
  · isplitl [Ho0]; · iexact Ho0
    iexact Hin
  iintro ⟨Ho0, Hin⟩
  rw [blk0_eq]
  rw [wp_bind]
  iapply (part7_run wq wo K)
  isplitr; · iexact HI
  isplitr; · iexact Hlev
  isplitl [HO]; · iexact HO
  isplitl [C9]; · iexact C9
  isplitl [P9]; · iexact P9
  isplitl [T2]; · iexact T2
  isplitr; · iexact Rn11
  isplitl [S8 L11]
  · unfold tick; isplitl [S8]; · iexact S8
    isplitr; · iexact R8
    iexact L11
  isplitl [C15]; · iexact C15
  isplitl [P15]; · iexact P15
  iintro ⟨HO, P9, P15, Hq3, Ho1, C8⟩
  rw [wp_bind]
  iapply (part8_run wq wo K)
  isplitr; · iexact HI
  isplitr; · iexact Hlev
  isplitl [HO]; · iexact HO
  isplitl [Ho1]; · iexact Ho1
  isplitl [F3]; · iexact F3
  isplitr; · iexact Rp17
  isplitl [S14 L17]
  · unfold tick; isplitl [S14]; · iexact S14
    isplitr; · iexact R14
    iexact L17
  isplitl [C16]; · iexact C16
  isplitl [P16]; · iexact P16
  isplitl [Hq3]; · iexact Hq3
  isplitl [Hin]; · iexact Hin
  iintro ⟨HO, Ho1, C14, P16, Ho3, Hq3, Hin⟩
  dsimp only
  rw [wp_bind]
  iapply (part9_reads _ _ _)
  isplitl [HO Hin]
  · isplitl [HO]; · iexact HO
    iexact Hin
  iintro ⟨HO, Hin⟩
  dsimp only
  rw [wp_bind]
  iapply (part10_reads _ _ _ _ _ _ _ _ _)
  isplitl [HO Hin]
  · isplitl [HO]; · iexact HO
    iexact Hin
  iintro ⟨HO, Hin⟩
  dsimp only
  rw [wp_bind]
  iapply (part11_reads _ _ _ _ _ _ _ _ _)
  isplitl [Ho3 Hin]
  · isplitl [Ho3]; · iexact Ho3
    iexact Hin
  iintro ⟨Ho3, Hin⟩
  rw [blk3_eq]
  rw [wp_bind]
  iapply (part12_run wq wo K)
  isplitr; · iexact HI
  isplitr; · iexact Hlev
  isplitl [HO]; · iexact HO
  isplitl [C10]; · iexact C10
  isplitl [P10]; · iexact P10
  isplitl [Hin]; · iexact Hin
  iintro ⟨HO, P10, Hq1, Hin⟩
  dsimp only
  rw [wp_bind]
  iapply (part13_reads _ _ _ _ _ _ _)
  isplitl [HO Hin]
  · isplitl [HO]; · iexact HO
    iexact Hin
  iintro ⟨HO, Hin⟩
  dsimp only
  rw [wp_bind]
  iapply (part14_reads _ _ _ _)
  isplitl [HO Hin]
  · isplitl [HO]; · iexact HO
    iexact Hin
  iintro ⟨HO, Hin⟩
  dsimp only
  rw [wp_bind]
  iapply (part15_run wq wo K)
  isplitr; · iexact HI
  isplitr; · iexact Hlev
  isplitl [HO]; · iexact HO
  isplitl [C11]; · iexact C11
  isplitl [P11]; · iexact P11
  isplitl [Ho1]; · iexact Ho1
  isplitl [Hin]; · iexact Hin
  iintro ⟨HO, P11, Hq2, Ho1, Hin⟩
  dsimp only
  rw [blk1_eq]
  rw [wp_bind]
  iapply (part16_run wq wo K)
  isplitr; · iexact HI
  isplitr; · iexact Hlev
  isplitl [HO]; · iexact HO
  isplitl [C17]; · iexact C17
  isplitl [P17]; · iexact P17
  isplitl [Hq2]; · iexact Hq2
  isplitl [Hin]; · iexact Hin
  iintro ⟨HO, P17, Ho2, Hq2, Hin⟩
  dsimp only
  rw [wp_bind]
  iapply (part17_reads _ _ _ _ _ _)
  isplitl [HO Hin]
  · isplitl [HO]; · iexact HO
    iexact Hin
  iintro ⟨HO, Hin⟩
  dsimp only
  rw [wp_bind]
  iapply (part18_reads _ _ _)
  isplitl [HO Hin]
  · isplitl [HO]; · iexact HO
    iexact Hin
  iintro ⟨HO, Hin⟩
  dsimp only
  rw [wp_bind]
  iapply (part19_run wo)
  isplitl [Ho2]; · iexact Ho2
  isplitl [Hin]; · iexact Hin
  isplitl [Hf]; · iexact Hf
  iintro ⟨Ho2, Hin, Hf⟩
  dsimp only
  rw [blk2_eq]
  rw [wp_bind]
  iapply (part20_run wq wo K)
  isplitr; · iexact HI
  isplitr; · iexact Hlev
  isplitl [HO]; · iexact HO
  isplitl [C6]; · iexact C6
  isplitl [P6]; · iexact P6
  isplitl [C12]; · iexact C12
  isplitl [P12]; · iexact P12
  isplitl [C7]; · iexact C7
  isplitl [P7]; · iexact P7
  iintro ⟨HO, P6, P12, P7, HqA, HoA, HqB⟩
  simp only [Prog.lift, Prog.bind_op, Prog.bind_ret, Prog.pure_eq_ret]
  iapply (wait_step wq wo K (m := 13) (by decide) (by decide) (n := 0) (fun j hj => absurd hj (Nat.not_lt_zero j)) (dst := woV 0 inb_S4x256x512_S1x256x512_0_0_0) rfl) $$ [C13 HO P13]
  · isplitr; · iexact HI
    isplitr; · iexact Hlev
    isplitl [C13]; · iexact C13
    isplitl [HO]; · iexact HO
    iexact P13
  iintro ⟨HO, P13, HoB⟩
  ihave HoB := (Entails.of_eq (pay13 wq wo c)) $$ HoB
  iapply (wait_step wq wo K (m := 8) (by decide) (by decide) (n := 0) (fun j hj => absurd hj (Nat.not_lt_zero j)) (dst := wqV 3 inb_S4x512x256_S1x512x256_3_0_0) rfl) $$ [C8 HO P8]
  · isplitr; · iexact HI
    isplitr; · iexact Hlev
    isplitl [C8]; · iexact C8
    isplitl [HO]; · iexact HO
    iexact P8
  iintro ⟨HO, P8, HqA3⟩
  ihave HqA3 := (Entails.of_eq (pay8 wq wo c)) $$ HqA3
  iapply (wait_step wq wo K (m := 14) (by decide) (by decide) (n := 0) (fun j hj => absurd hj (Nat.not_lt_zero j)) (dst := woV 1 inb_S4x256x512_S1x256x512_1_0_0) rfl) $$ [C14 HO P14]
  · isplitr; · iexact HI
    isplitr; · iexact Hlev
    isplitl [C14]; · iexact C14
    isplitl [HO]; · iexact HO
    iexact P14
  iintro ⟨HO, P14, HoA1⟩
  ihave HoA1 := (Entails.of_eq (pay14 wq wo c)) $$ HoA1
  imod (close_dma wq wo K c (n := 6) (by decide) (by decide)) $$ [P6] with P6
  · isplitr; · iexact HI
    iexact P6
  imod (close_dma wq wo K c (n := 7) (by decide) (by decide)) $$ [P7] with P7
  · isplitr; · iexact HI
    iexact P7
  imod (close_dma wq wo K c (n := 8) (by decide) (by decide)) $$ [P8] with P8
  · isplitr; · iexact HI
    iexact P8
  imod (close_dma wq wo K c (n := 9) (by decide) (by decide)) $$ [P9] with P9
  · isplitr; · iexact HI
    iexact P9
  imod (close_dma wq wo K c (n := 10) (by decide) (by decide)) $$ [P10] with P10
  · isplitr; · iexact HI
    iexact P10
  imod (close_dma wq wo K c (n := 11) (by decide) (by decide)) $$ [P11] with P11
  · isplitr; · iexact HI
    iexact P11
  imod (close_dma wq wo K c (n := 12) (by decide) (by decide)) $$ [P12] with P12
  · isplitr; · iexact HI
    iexact P12
  imod (close_dma wq wo K c (n := 13) (by decide) (by decide)) $$ [P13] with P13
  · isplitr; · iexact HI
    iexact P13
  imod (close_dma wq wo K c (n := 14) (by decide) (by decide)) $$ [P14] with P14
  · isplitr; · iexact HI
    iexact P14
  imod (close_dma wq wo K c (n := 15) (by decide) (by decide)) $$ [P15] with P15
  · isplitr; · iexact HI
    iexact P15
  imod (close_dma wq wo K c (n := 16) (by decide) (by decide)) $$ [P16] with P16
  · isplitr; · iexact HI
    iexact P16
  imod (close_dma wq wo K c (n := 17) (by decide) (by decide)) $$ [P17] with P17
  · isplitr; · iexact HI
    iexact P17
  imod (close_bar wq wo K c) $$ [PB] with PB
  · isplitr; · iexact HI
    iexact PB
  rw [wp_ret]; imodintro
  iapply Hk
  isplitl [HO]; · iexact HO
  isplitl [P6 P7 P8 P9 P10 P11 P12 P13 P14 P15 P16 P17]
  · unfold zeros
    isplitl [P6]; · iexact P6
    isplitl [P7]; · iexact P7
    isplitl [P8]; · iexact P8
    isplitl [P9]; · iexact P9
    isplitl [P10]; · iexact P10
    isplitl [P11]; · iexact P11
    isplitl [P12]; · iexact P12
    isplitl [P13]; · iexact P13
    isplitl [P14]; · iexact P14
    isplitl [P15]; · iexact P15
    isplitl [P16]; · iexact P16
    iexact P17
  isplitl [PB]; · iexact PB
  isplitl [Hin]; · iexact Hin
  isplitl [Hown]; · iexact Hown
  isplitl [Hf]; · iexact Hf
  isplitl [HqA HqB Hq0 HqA3 Hq3 Hq1 Hq2]
  · iexists (wqAll wq c)
    iapply (Entails.of_eq (wq_pieces c (wqAll wq c)).symm)
    isplitl [HqA HqB Hq0]
    · iapply (wq_two _ _ _ _).2
      isplitl [HqA]; · iexact HqA
      iapply (wq_two' _ _ _ _).2
      isplitl [HqB]; · iexact HqB
      iexact Hq0
    isplitl [Hq1]; · iexact Hq1
    isplitl [Hq2]; · iexact Hq2
    iapply (wq_two _ _ _ _).2
    isplitl [HqA3]; · iexact HqA3
    iexact Hq3
  · iexists (woAll wo c)
    iapply (Entails.of_eq (wo_pieces c (woAll wo c)).symm)
    isplitl [HoA HoB Ho0]
    · iapply (wo_two _ _ _ _).2
      isplitl [HoA]; · iexact HoA
      iapply (wo_two' _ _ _ _).2
      isplitl [HoB]; · iexact HoB
      iexact Ho0
    isplitl [HoA1 Ho1]
    · iapply (wo_two _ _ _ _).2
      isplitl [HoA1]; · iexact HoA1
      iexact Ho1
    isplitl [Ho2]; · iexact Ho2
    iexact Ho3

end Cert.KernelIdeal.Ring
-- ==== Proof.Region.lean ====
/-
The kernel's call as a region of the host program: the staged operands go in, the body runs, the result's buffer comes out.
-/
module

public import proofs.«01_k».proof.Proof.Run
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit.Geometry

@[expose] public section

noncomputable section

namespace Cert.KernelIdeal.Ring

open Cert.KernelIdeal Cert.KernelIdeal.Gen Cert.Slots
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ
local notation "𝔓" => Prog (TpuEff nD τ sig (Elt F) Λ₀ Proc.tc)

variable {c : Dev nD} {X : Vec F S256x512 .bf16} {KT : Vec F S2x64x2048 .bf16} {V : Vec F S2x128x1024 .bf16}

/-! `W`: what every device's buffers hold when the kernel is called. -/

variable (W : Dev nD → Valuation τ sig (Elt F))

/-- The two weight blocks of a device, and the result it computes. -/
abbrev wqOf (d : Dev nD) : Vec F S512x256 .bf16 := W d (Proc.devRef .tc main_arg1)
abbrev woOf (d : Dev nD) : Vec F S256x512 .bf16 := W d (Proc.devRef .tc main_arg4)
def resOf (c : Dev nD) : Vec F S2x128x512 .bf16 :=
  resV (wqOf W) (woOf W) c (W c (Proc.devRef .tc main_v28)) (W c (Proc.devRef .tc main_v20)) (W c (Proc.devRef .tc main_v25))

/-- The buffers after the call. -/
def aft (c : Dev nD) : Valuation τ sig (Elt F) := Function.update (W c) (Proc.devRef .tc main_v29) (resOf W c)

/-! ## What a device brings, and what its body starts from and ends with -/

/-- The right to open each of its copy cells. -/
def opens (c : Dev nD) : sProp 𝕄 := iprop(openTok ER (cell c 6) ∗ openTok ER (cell c 7) ∗ openTok ER (cell c 8) ∗ openTok ER (cell c 9) ∗ openTok ER (cell c 10) ∗ openTok ER (cell c 11) ∗ openTok ER (cell c 12) ∗ openTok ER (cell c 13) ∗ openTok ER (cell c 14) ∗ openTok ER (cell c 15) ∗ openTok ER (cell c 16) ∗ openTok ER (cell c 17))

/-- From the launch. -/
def Tk (c : Dev nD) : sProp 𝕄 :=
  iprop((∃ K, invs (wqOf W) (woOf W) K) ∗ opens c ∗ barGhost c ∗ toks c ∗ toksR c ∗ crds c)
/-- With the copy cells open. -/
def Xk (c : Dev nD) : sProp 𝕄 :=
  iprop((∃ K, invs (wqOf W) (woOf W) K) ∗ levAts L lv ∗ barGhost c ∗ poss c ∗ rchs c ∗ toks c ∗ toksR c ∗ crds c)
/-- After the body: the barrier's counter is back at zero. -/
def Yk (c : Dev nD) : sProp 𝕄 := semVal (barCell c) 0

def inv0 (c : Dev nD) : sProp 𝕄 := iprop(Xk W c ∗ scr c ∗ ∃ r, prngReg c r)
def inv1 (c : Dev nD) : sProp 𝕄 := iprop(Yk c ∗ zeros c ∗ scr c ∗ ∃ r, prngReg c r)

def dat (c : Dev nD) : Dat τ (Elt F) Unit ℕ UU ℕ cfg0 c where
  A w := match w with
    | ⟨0, _⟩ => W c (Proc.devRef .tc main_v28)
    | ⟨1, _⟩ => W c (Proc.devRef .tc main_arg1)
    | ⟨2, _⟩ => W c (Proc.devRef .tc main_v20)
    | ⟨3, _⟩ => W c (Proc.devRef .tc main_v25)
    | ⟨4, _⟩ => W c (Proc.devRef .tc main_arg4)
    | ⟨5, _⟩ => W c (Proc.devRef .tc main_v29)
  after w _ := match w with
    | ⟨0, _⟩ => W c (Proc.devRef .tc main_v28)
    | ⟨1, _⟩ => W c (Proc.devRef .tc main_arg1)
    | ⟨2, _⟩ => W c (Proc.devRef .tc main_v20)
    | ⟨3, _⟩ => W c (Proc.devRef .tc main_v25)
    | ⟨4, _⟩ => W c (Proc.devRef .tc main_arg4)
    | ⟨5, _⟩ => resOf W c
  Φ t := match t with
    | ⟨0, _⟩ => inv0 W c
    | ⟨_ + 1, _⟩ => inv1 c
  q _ := fullShare
  owed t := match t with
    | ⟨0, _⟩ => Ow c 8
    | ⟨_ + 1, _⟩ => 0

def dats : (p : Fin 1) → (c : Dev nD) → Dat τ (Elt F) Unit ℕ UU ℕ (cfgs p) c := fun _ c => dat W c

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns
  rw [View.set_whole]
  rfl

/-! A whole window's block is the array itself. -/

omit [FloatOps F] in
theorem block_0 (A : Vec F S256x512 .bf16) : ((cfg0.win (0 : Fin 6)).blk t0_0).view.read (Elt F) A = A := by
  funext j
  have e : ∀ a, (cfg0.win (0 : Fin 6)).index t0_0 a = 0 := by decide
  exact congrArg A (funext fun a => Fin.ext ((cfg0.win (0 : Fin 6)).rect_emb_val_of_index_zero t0_0 a (e a) j))

omit [FloatOps F] in
theorem block_1 (A : Vec F S512x256 .bf16) : ((cfg0.win (1 : Fin 6)).blk t0_0).view.read (Elt F) A = A := by
  funext j
  have e : ∀ a, (cfg0.win (1 : Fin 6)).index t0_0 a = 0 := by decide
  exact congrArg A (funext fun a => Fin.ext ((cfg0.win (1 : Fin 6)).rect_emb_val_of_index_zero t0_0 a (e a) j))

omit [FloatOps F] in
theorem block_2 (A : Vec F S2x64x2048 .bf16) : ((cfg0.win (2 : Fin 6)).blk t0_0).view.read (Elt F) A = A := by
  funext j
  have e : ∀ a, (cfg0.win (2 : Fin 6)).index t0_0 a = 0 := by decide
  exact congrArg A (funext fun a => Fin.ext ((cfg0.win (2 : Fin 6)).rect_emb_val_of_index_zero t0_0 a (e a) j))

omit [FloatOps F] in
theorem block_3 (A : Vec F S2x128x1024 .bf16) : ((cfg0.win (3 : Fin 6)).blk t0_0).view.read (Elt F) A = A := by
  funext j
  have e : ∀ a, (cfg0.win (3 : Fin 6)).index t0_0 a = 0 := by decide
  exact congrArg A (funext fun a => Fin.ext ((cfg0.win (3 : Fin 6)).rect_emb_val_of_index_zero t0_0 a (e a) j))

omit [FloatOps F] in
theorem block_4 (A : Vec F S256x512 .bf16) : ((cfg0.win (4 : Fin 6)).blk t0_0).view.read (Elt F) A = A := by
  funext j
  have e : ∀ a, (cfg0.win (4 : Fin 6)).index t0_0 a = 0 := by decide
  exact congrArg A (funext fun a => Fin.ext ((cfg0.win (4 : Fin 6)).rect_emb_val_of_index_zero t0_0 a (e a) j))

/-- What a staging buffer is found holding, and what it is left holding. -/
abbrev found (c : Dev nD) (b : Ref sig .tc) (X : b.ty.Contents (Elt F) → b.ty.Contents (Elt F)) : sProp 𝕄 :=
  iprop(∃ d, ∃ f : Buf (Elt F) ((c : Thread nD τ).loc b), ⌜f = X d⌝ ∗ ((c : Thread nD τ).loc b ↦{fullShare} f))
abbrev left (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

set_option maxRecDepth 4000 in
def bodyPre (c : Dev nD) : sProp 𝕄 :=
  iprop(inv0 W c ∗ (dat W c).owesAt () t0_0.castSucc
    ∗ found c cc0_stg0_0 ((dat W c).before (0 : Fin 6) t0_0) ∗ found c cc0_stg1_0 ((dat W c).before (1 : Fin 6) t0_0)
    ∗ found c cc0_stg2_0 ((dat W c).before (2 : Fin 6) t0_0) ∗ found c cc0_stg3_0 ((dat W c).before (3 : Fin 6) t0_0)
    ∗ found c cc0_stg4_0 ((dat W c).before (4 : Fin 6) t0_0) ∗ found c cc0_stg5_0 ((dat W c).before (5 : Fin 6) t0_0))
set_option maxRecDepth 4000 in
def bodyPost (c : Dev nD) : sProp 𝕄 :=
  iprop(inv1 c ∗ (dat W c).owesAt () t0_0.succ
    ∗ left c cc0_stg0_0 (W c (Proc.devRef .tc main_v28)) ∗ left c cc0_stg1_0 (W c (Proc.devRef .tc main_arg1))
    ∗ left c cc0_stg2_0 (W c (Proc.devRef .tc main_v20)) ∗ left c cc0_stg3_0 (W c (Proc.devRef .tc main_v25))
    ∗ left c cc0_stg4_0 (W c (Proc.devRef .tc main_arg4)) ∗ left c cc0_stg5_0 (resOf W c))

set_option maxRecDepth 4000 in
theorem body_sound (c : Dev nD) : bodyPre W c ⊢ wp frame (wpE (defs₀ (F := F)) 𝒱₀ (c : Thread nD τ) none) Set.univ (cc0__body xM (Memref.isWhole_whole _) wqS (Memref.isWhole_whole _) ktM (Memref.isWhole_whole _) vM (Memref.isWhole_whole _) woS (Memref.isWhole_whole _) oM (Memref.isWhole_whole _) wqM (Memref.isWhole_whole _) woM (Memref.isWhole_whole _) cc0_scratch2 cc0_scratch3 cc0_scratch4 cc0_scratch5) (fun _ => bodyPost W c) := by
  unfold bodyPre inv0 Xk found
  iintro ⟨⟨⟨⟨%K, #HI⟩, #Hlev, HB, Hp, #Hr, Ht, HtR, Hc⟩, Hscr, Hreg⟩, HO, ⟨%d0, %f0, %e0, H0⟩, ⟨%d1, %f1, %e1, H1⟩, ⟨%d2, %f2, %e2, H2⟩, ⟨%d3, %f3, %e3, H3⟩,
    ⟨%d4, %f4, %e4, H4⟩, ⟨%d5, %f5, %e5, H5⟩⟩
  have g0 : f0 = W c (Proc.devRef .tc main_v28) := by rw [e0]; unfold Dat.before; rw [if_pos (fetch0_0 t0_0)]; exact block_0 (F := F) (W c (Proc.devRef .tc main_v28))
  have g1 : f1 = W c (Proc.devRef .tc main_arg1) := by rw [e1]; unfold Dat.before; rw [if_pos (fetch0_1 t0_0)]; exact block_1 (F := F) (W c (Proc.devRef .tc main_arg1))
  have g2 : f2 = W c (Proc.devRef .tc main_v20) := by rw [e2]; unfold Dat.before; rw [if_pos (fetch0_2 t0_0)]; exact block_2 (F := F) (W c (Proc.devRef .tc main_v20))
  have g3 : f3 = W c (Proc.devRef .tc main_v25) := by rw [e3]; unfold Dat.before; rw [if_pos (fetch0_3 t0_0)]; exact block_3 (F := F) (W c (Proc.devRef .tc main_v25))
  have g4 : f4 = W c (Proc.devRef .tc main_arg4) := by rw [e4]; unfold Dat.before; rw [if_pos (fetch0_4 t0_0)]; exact block_4 (F := F) (W c (Proc.devRef .tc main_arg4))
  rw [g0, g1, g2, g3, g4]
  unfold Dat.owesAt Pipeline.owesWithin
  icases HO with ⟨%Wt, -, HO⟩
  iapply (body_run (wqOf W) (woOf W) K (X := W c (Proc.devRef .tc main_v28)) (KT := W c (Proc.devRef .tc main_v20)) (V := W c (Proc.devRef .tc main_v25)))
  isplitr; · iexact HI
  isplitr; · iexact Hlev
  isplitl [HO]; · unfold owed; iexists Wt; iexact HO
  isplitl [HB]; · iexact HB
  isplitl [Hp]; · iexact Hp
  isplitr; · iexact Hr
  isplitl [Ht]; · iexact Ht
  isplitl [HtR]; · iexact HtR
  isplitl [Hc]; · iexact Hc
  isplitl [H0 H2 H3]
  · unfold ins
    isplitl [H0]; · iexact H0
    isplitl [H2]; · iexact H2
    iexact H3
  isplitl [H1 H4]
  · unfold own
    isplitl [H1]; · iexact H1
    iexact H4
  isplitl [H5]; · iexists f5; iexact H5
  isplitl [Hscr]; · iexact Hscr
  unfold owed ins own bodyPost inv1 Yk left
  iintro ⟨⟨%Wt', HO⟩, Hz, Hb, ⟨H0, H2, H3⟩, ⟨H1, H4⟩, H5, Hscr⟩
  isplitl [Hb Hz Hscr Hreg]
  · isplitl [Hb]; · iexact Hb
    isplitl [Hz]; · iexact Hz
    isplitl [Hscr]; · iexact Hscr
    iexact Hreg
  isplitl [HO]
  · unfold Dat.owesAt Pipeline.owesWithin
    iexists Wt'
    isplitr; · ipureintro; exact fun _ _ => Or.inl trivial
    iexact HO
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  iexists _; isplitr; · ipureintro; rfl
  iexact H5

set_option maxRecDepth 4000 in
theorem body_obl (c : Dev nD) : BodyObligation (dat W c) (defs₀ (F := F)) 𝒱₀ () Set.univ := fun t => by
  rw [fin_N0 t]
  rw [bigSep_W0, bigSep_W0]
  simp only [owns_whole]
  exact body_sound W c

/-! ## Entering and leaving -/

abbrev osem (k : Fin 12) : SemLoc sig := .dma (dq (k.val + 6) (by omega))
theorem osem_facts : Pipeline.OwnSemFacts spec0 osem := by decide

omit [FloatOps F] in
theorem ownSems_eq (c : Dev nD) : (Pipeline.ownSems0 osem c : sProp 𝕄) = zeros c := by
  unfold Pipeline.ownSems0
  rw [bigSep_univ_eq_bigSepL [0, 1, 2, 3, 4, 5, 6, 7, 8, 9, 10, 11] (by decide) (by decide)]
  simp only [bigSepL_cons_cons, bigSepL_singleton]
  rfl

/-- Opening one copy cell. -/
theorem open_one (K : GSem nD τ sig → ℕ) (c : Dev nD) {n : ℕ} (h : n < 18) (h6 : 6 ≤ n) :
    iprop(invs (wqOf W) (woOf W) K ∗ openTok ER (cell c n h) ∗ semVal (cell c n h) 0)
      ⊢ (|={Set.univ}=> (atPos ER (cell c n h) 0 ∅ 0 ∗ reached ER (cell c n h) 0) : sProp 𝕄) :=
  (sep_mono (inv_dma (wqOf W) (woOf W) K c h h6) .rfl).trans
    (Rounds.cell_open ER (rd (wqOf W) (woOf W)) (g := cell c n h) (Set.mem_univ (K (cell c n h))))

theorem opening (c : Dev nD) : iprop(Tk W c ∗ Pipeline.ownSems0 osem c ∗ levAts L lv) ⊢ (|={Set.univ}=> Xk W c : sProp 𝕄) := by
  rw [ownSems_eq]
  unfold Tk Xk opens zeros poss rchs
  iintro ⟨⟨⟨%K, #HI⟩, ⟨O6, O7, O8, O9, O10, O11, O12, O13, O14, O15, O16, O17⟩, HB, Ht, HtR, Hc⟩, ⟨Z6, Z7, Z8, Z9, Z10, Z11, Z12, Z13, Z14, Z15, Z16, Z17⟩, #Hlev⟩
  imod (open_one W K c (n := 6) (Nat.le_of_ble_eq_true rfl) (Nat.le_of_ble_eq_true rfl)) $$ [O6 Z6] with ⟨P6, #R6⟩
  · isplitr; · iexact HI
    isplitl [O6]; · iexact O6
    iexact Z6
  imod (open_one W K c (n := 7) (Nat.le_of_ble_eq_true rfl) (Nat.le_of_ble_eq_true rfl)) $$ [O7 Z7] with ⟨P7, #R7⟩
  · isplitr; · iexact HI
    isplitl [O7]; · iexact O7
    iexact Z7
  imod (open_one W K c (n := 8) (Nat.le_of_ble_eq_true rfl) (Nat.le_of_ble_eq_true rfl)) $$ [O8 Z8] with ⟨P8, #R8⟩
  · isplitr; · iexact HI
    isplitl [O8]; · iexact O8
    iexact Z8
  imod (open_one W K c (n := 9) (Nat.le_of_ble_eq_true rfl) (Nat.le_of_ble_eq_true rfl)) $$ [O9 Z9] with ⟨P9, #R9⟩
  · isplitr; · iexact HI
    isplitl [O9]; · iexact O9
    iexact Z9
  imod (open_one W K c (n := 10) (Nat.le_of_ble_eq_true rfl) (Nat.le_of_ble_eq_true rfl)) $$ [O10 Z10] with ⟨P10, #R10⟩
  · isplitr; · iexact HI
    isplitl [O10]; · iexact O10
    iexact Z10
  imod (open_one W K c (n := 11) (Nat.le_of_ble_eq_true rfl) (Nat.le_of_ble_eq_true rfl)) $$ [O11 Z11] with ⟨P11, #R11⟩
  · isplitr; · iexact HI
    isplitl [O11]; · iexact O11
    iexact Z11
  imod (open_one W K c (n := 12) (Nat.le_of_ble_eq_true rfl) (Nat.le_of_ble_eq_true rfl)) $$ [O12 Z12] with ⟨P12, #R12⟩
  · isplitr; · iexact HI
    isplitl [O12]; · iexact O12
    iexact Z12
  imod (open_one W K c (n := 13) (Nat.le_of_ble_eq_true rfl) (Nat.le_of_ble_eq_true rfl)) $$ [O13 Z13] with ⟨P13, #R13⟩
  · isplitr; · iexact HI
    isplitl [O13]; · iexact O13
    iexact Z13
  imod (open_one W K c (n := 14) (Nat.le_of_ble_eq_true rfl) (Nat.le_of_ble_eq_true rfl)) $$ [O14 Z14] with ⟨P14, #R14⟩
  · isplitr; · iexact HI
    isplitl [O14]; · iexact O14
    iexact Z14
  imod (open_one W K c (n := 15) (Nat.le_of_ble_eq_true rfl) (Nat.le_of_ble_eq_true rfl)) $$ [O15 Z15] with ⟨P15, #R15⟩
  · isplitr; · iexact HI
    isplitl [O15]; · iexact O15
    iexact Z15
  imod (open_one W K c (n := 16) (Nat.le_of_ble_eq_true rfl) (Nat.le_of_ble_eq_true rfl)) $$ [O16 Z16] with ⟨P16, #R16⟩
  · isplitr; · iexact HI
    isplitl [O16]; · iexact O16
    iexact Z16
  imod (open_one W K c (n := 17) (Nat.le_of_ble_eq_true rfl) (Nat.le_of_ble_eq_true rfl)) $$ [O17 Z17] with ⟨P17, #R17⟩
  · isplitr; · iexact HI
    isplitl [O17]; · iexact O17
    iexact Z17
  imodintro
  isplitr; · iexists K; iexact HI
  isplitr; · iexact Hlev
  isplitl [HB]; · iexact HB
  isplitl [P6 P7 P8 P9 P10 P11 P12 P13 P14 P15 P16 P17]
  · isplitl [P6]; · iexact P6
    isplitl [P7]; · iexact P7
    isplitl [P8]; · iexact P8
    isplitl [P9]; · iexact P9
    isplitl [P10]; · iexact P10
    isplitl [P11]; · iexact P11
    isplitl [P12]; · iexact P12
    isplitl [P13]; · iexact P13
    isplitl [P14]; · iexact P14
    isplitl [P15]; · iexact P15
    isplitl [P16]; · iexact P16
    iexact P17
  isplitr
  · isplitr; · iexact R6
    isplitr; · iexact R7
    isplitr; · iexact R8
    isplitr; · iexact R9
    isplitr; · iexact R10
    isplitr; · iexact R11
    isplitr; · iexact R12
    isplitr; · iexact R13
    isplitr; · iexact R14
    isplitr; · iexact R15
    isplitr; · iexact R16
    iexact R17
  isplitl [Ht]; · iexact Ht
  isplitl [HtR]; · iexact HtR
  iexact Hc

omit [FloatOps F] in
theorem held_none (c : Dev nD) (V : Valuation τ sig (Elt F)) : (StableHlo.held (c.tc : Thread nD τ) ∅ V : sProp 𝕄) = BI.emp := by
  unfold StableHlo.held; exact BI.bigSep_empty

theorem entering (c : Dev nD) : iprop(Pipeline.scopedRest (Pipeline.pin (pcfgs (F := F)) adm 0).spec c ∗ (∃ r, prngReg c r) ∗ StableHlo.held (c.tc : Thread nD τ) ∅ (W c) ∗ Xk W c)
    ⊢ (dats W 0 c).Φ 0 := by
  rw [show (dats W 0 c).Φ 0 = inv0 W c from rfl, show (Pipeline.scopedRest (Pipeline.pin (pcfgs (F := F)) adm 0).spec c : sProp 𝕄) = scr c from scopedRest0_eq c]
  unfold inv0
  iintro ⟨Hs, Hp, -, HX⟩
  isplitl [HX]; · iexact HX
  isplitl [Hs]; · iexact Hs
  iexact Hp

theorem leaving (c : Dev nD) : (dats W 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (aft W c) ∗ Pipeline.ownSems0 osem c ∗ Yk c) := by
  rw [show (dats W 0 c).Φ (Fin.last _) = inv1 c from rfl, show (Pipeline.scopedRest (Pipeline.pin (pcfgs (F := F)) adm 0).spec c : sProp 𝕄) = scr c from scopedRest0_eq c,
    ownSems_eq, held_none]
  unfold inv1
  iintro ⟨Hy, Hz, Hs, Hp⟩
  isplitl [Hs]; · iexact Hs
  isplitl [Hp]; · iexact Hp
  isplitr; · iempintro
  isplitl [Hz]; · iexact Hz
  iexact Hy

theorem arr_in (c : Dev nD) (w : Fin 6) : (dats W 0 c).arrAt w 0 = W c (Proc.devRef .tc (Pipeline.arrRef spec0 w)) :=
  match w with | 0 => rfl | 1 => rfl | 2 => rfl | 3 => rfl | 4 => rfl | 5 => rfl

theorem aft_ne (c : Dev nD) (r : Ref sig .tc) (h : r ≠ main_v29) : aft W c (Proc.devRef .tc r) = W c (Proc.devRef .tc r) :=
  Function.update_of_ne (fun e => h (Proc.devRef_injective _ e)) _ _
theorem aft_out (c : Dev nD) : aft W c (Proc.devRef .tc main_v29) = resOf W c := Function.update_self ..

theorem arr_kept (c : Dev nD) (w : Fin 6) (hin : (cfg0.win w).isOut = false) (h : Pipeline.arrRef spec0 w ≠ main_v29) :
    (dats W 0 c).arrAt w cfg0.N = aft W c (Proc.devRef .tc (Pipeline.arrRef spec0 w)) :=
  ((dat W c).arrAt_in w hin _).trans ((arr_in W c w).trans (aft_ne W c _ h).symm)

theorem arr_out (c : Dev nD) : (dats W 0 c).arrAt (5 : Fin 6) cfg0.N = aft W c (Proc.devRef .tc main_v29) := by
  rw [aft_out]
  funext i
  exact (dat W c).arrAt_emb_eq_after_last (5 : Fin 6) t0_0 (by decide +kernel) i

theorem arr_end (c : Dev nD) (w : Fin 6) : (dats W 0 c).arrAt w cfg0.N = aft W c (Proc.devRef .tc (Pipeline.arrRef spec0 w)) :=
  match w with
  | 0 => arr_kept W c 0 rfl (by decide) | 1 => arr_kept W c 1 rfl (by decide) | 2 => arr_kept W c 2 rfl (by decide)
  | 3 => arr_kept W c 3 rfl (by decide) | 4 => arr_kept W c 4 rfl (by decide) | 5 => arr_out W c

theorem payCell_pos (c : Dev nD) : ∀ j < 8, 0 < lvOf (payCell c j).2
  | 0, _ | 1, _ | 2, _ | 3, _ | 4, _ | 5, _ | 6, _ | 7, _ => by show (0 : ℕ) < lvOf _; first | exact Nat.zero_lt_succ _ | decide

/-- The staging buffers' cells lie below everything that a device owes. -/
theorem cut (c : Dev nD) (t : Fin (cfg0.N + 1)) (g : GSem nD τ sig) (i : Unit) (h : 0 < (dat W c).owed t g i) : i ∈ L g ∧ (0 : ℕ) < lv g i := by
  obtain ⟨n, hn⟩ := t
  cases n with
  | zero =>
    obtain ⟨j, hj, rfl⟩ := Ow_pos (show 0 < Ow c 8 g i from h)
    exact ⟨by rw [L_payCell]; exact Finset.mem_singleton_self _, payCell_pos c j hj⟩
  | succ n => exact absurd h (Nat.lt_irrefl 0)

theorem stage_low (w : Fin 6) (s : Fin (spec0 w).nbuf) : lvOf (.dma ((spec0 w).sem s)) ≤ 0 := by
  revert s; revert w; decide

abbrev restRefs : Finset (DevRef τ sig) := Pipeline.ucRefs τ sig \ Pipeline.arrRefs (τ := τ) spec0

theorem aft_rest (c : Dev nD) : ∀ b ∈ restRefs \ ∅, aft W c b = W c b := fun b hb => by
  refine Function.update_of_ne (fun e => ?_) _ _
  rw [Finset.sdiff_empty] at hb
  exact (Finset.mem_sdiff.mp hb).2 (e ▸ Finset.mem_map_of_mem _ (Finset.mem_image_of_mem _ (Finset.mem_univ (5 : Fin 6))))

set_option backward.isDefEq.respectTransparency.types false in
def region : Pipeline.RegionSeg (pcfgs (F := F)) adm (dats W) () defs₀ 𝒱₀ L lv 0 :=
  Pipeline.RegionSeg.ofTalk (pcfgs (F := F)) adm (dats W) () defs₀ 𝒱₀ L lv 0 osem osem_facts ∅ restRefs (Finset.empty_subset _)
    launch0.toP rfl (fun c => (body_obl W c).loose)
    (fun _ => 0) (fun c => Ow c 8) (fun c => (zero_add (Ow c 8)).symm) (fun _ => rfl) (fun _ => rfl) (fun _ _ => by unfold Dat.share; split <;> rfl)
    W (aft W) (aft_rest W) (Tk W) Yk (Xk W) Yk (opening W) (entering W) (leaving W) (fun c => by iintro H; imodintro; iexact H)
    (fun _ => 0) ⟨fun c _ _ => by rw [L_tc]; exact Finset.mem_singleton_self _, fun _ w s => stage_low w s, fun c t g i h => cut W c t g i h⟩
    (fun _ => iprop(emp)) (arr_in W) (arr_end W)

/-- Beside the buffers, on the way to the call and after it. -/
def ride0 (c : Dev nD) : sProp 𝕄 := iprop((∃ r, prngReg c r) ∗ Tk W c ∗ ∃ Wd, owes (c : Thread nD τ) (Ow c 8) Wd)
def ride1 (c : Dev nD) : sProp 𝕄 := iprop(semVal (barCell c) 0 ∗ ∃ Wd, owes (c : Thread nD τ) (0 : CellTallies nD τ sig Unit) Wd)

theorem arr_sub : Pipeline.arrRefs (τ := τ) spec0 ⊆ Pipeline.ucRefs τ sig := Pipeline.arrRefs_sub_ucRefs spec0 (by decide)

theorem region_pre (c : Dev nD) : iprop(StableHlo.held (c : Thread nD τ) (Pipeline.ucRefs τ sig) (W c) ∗ ride0 W c) ⊢ (region W).pre c := by
  show _ ⊢ iprop(StableHlo.held (c.tc : Thread nD τ) (Pipeline.arrRefs (τ := τ) spec0) (W c) ∗ (∃ r, prngReg c r)
    ∗ (StableHlo.held (c.tc : Thread nD τ) restRefs (W c) ∗ emp) ∗ Tk W c ∗ ∃ Wd, owes (c : Thread nD τ) (0 + Ow c 8) Wd)
  rw [zero_add, StableHlo.held_sub_split c.tc arr_sub (W c)]
  unfold ride0
  iintro ⟨⟨Ha, Hs⟩, Hp, HT, HO⟩
  isplitl [Ha]; · iexact Ha
  isplitl [Hp]; · iexact Hp
  isplitl [Hs]
  · isplitl [Hs]; · iexact Hs
    iempintro
  isplitl [HT]; · iexact HT
  iexact HO

theorem region_post (c : Dev nD) : (region W).post c ⊢ iprop(StableHlo.held (c : Thread nD τ) (Pipeline.ucRefs τ sig) (aft W c) ∗ ride1 c) := by
  show iprop(StableHlo.held (c.tc : Thread nD τ) (Pipeline.arrRefs (τ := τ) spec0) (aft W c) ∗ (∃ r, prngReg c r)
    ∗ (StableHlo.held (c.tc : Thread nD τ) restRefs (aft W c) ∗ emp) ∗ Yk c ∗ ∃ Wd, owes (c : Thread nD τ) (0 : CellTallies nD τ sig Unit) Wd) ⊢ _
  rw [StableHlo.held_sub_split c.tc arr_sub (aft W c)]
  unfold ride1 Yk
  iintro ⟨Ha, -, ⟨Hs, -⟩, Hb, HO⟩
  isplitl [Ha Hs]
  · isplitl [Ha]; · iexact Ha
    iexact Hs
  isplitl [Hb]; · iexact Hb
  iexact HO

end Cert.KernelIdeal.Ring
-- ==== Proof.Deal.lean ====
/-
How the launch deals the ring's ghost state: every device gets the tokens of the payments that it makes, the rights to wait for
its own cells, and everybody may consult the cells' invariants.
-/
module

public import proofs.«01_k».proof.Proof.Region
public import Idealize.ShloMosaic.Lib.Quiescent
public import Idealize.ShloMosaic.Harness.Basic

@[expose] public section

noncomputable section

namespace Cert.KernelIdeal.Ring

open Cert.KernelIdeal Cert.KernelIdeal.Gen Cert.Slots
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ
local notation "𝔓" => Prog (TpuEff nD τ sig (Elt F) Λ₀ Proc.tc)

open Idealize.ShloMosaic.Smoke (bigSep_pair bigSep_unpair)

variable (W : Dev nD → Valuation τ sig (Elt F))

/-! ## The cells and the tokens -/

def barEmb : Dev nD ↪ GSem nD τ sig := ⟨barCell, fun _ _ h => congrArg (fun g : GSem nD τ sig => g.1.1) h⟩
theorem osem_inj : Function.Injective osem := by decide
def copyEmb : Dev nD × Fin 12 ↪ GSem nD τ sig :=
  ⟨fun ck => ((ck.1 : Thread nD τ), osem ck.2), fun _ _ h => Prod.ext (congrArg (fun g : GSem nD τ sig => g.1.1) h) (osem_inj (congrArg Prod.snd h))⟩
/-- The barrier cells start with their counters in them; the copy cells are opened when the kernel is entered. -/
abbrev barCells : Finset (GSem nD τ sig) := Finset.univ.map barEmb
abbrev copyCells : Finset (GSem nD τ sig) := Finset.univ.map copyEmb

/-- A cell's two tokens at the barrier, and one for each copy cell. -/
def tsem (k : Fin 14) : SemLoc sig := if h : k.val < 2 then .reg barS else .dma (dq (k.val + 4) (by omega))
def tduty (k : Fin 14) : Bool := decide (k.val ≠ 1)
theorem tsem_inj : Function.Injective fun k : Fin 14 => (tsem k, tduty k) := by decide
def tokEmb : Dev nD × Fin 14 ↪ GSem nD τ sig × ℕ × Bool :=
  ⟨fun ck => (((ck.1 : Thread nD τ), tsem ck.2), 0, tduty ck.2), fun _ _ h =>
    Prod.ext (congrArg (fun t : GSem nD τ sig × ℕ × Bool => t.1.1.1) h)
      (tsem_inj (Prod.ext (congrArg (fun t : GSem nD τ sig × ℕ × Bool => t.1.2) h) (congrArg (fun t : GSem nD τ sig × ℕ × Bool => t.2.2) h)))⟩
def allToks : Finset (GSem nD τ sig × ℕ × Bool) := Finset.univ.map tokEmb

theorem cells_apart : Disjoint (barCells : Finset (GSem nD τ sig)) copyCells := by
  rw [Finset.disjoint_left]
  rintro g h₁ h₂
  obtain ⟨c, -, rfl⟩ := Finset.mem_map.mp h₁
  obtain ⟨ck, -, h⟩ := Finset.mem_map.mp h₂
  exact absurd (congrArg Prod.snd h) (by intro e; cases e)

theorem kcell_mem (ck : Dev nD × Fin 13) : kcell ck ∈ (barCells ∪ copyCells : Finset (GSem nD τ sig)) := by
  obtain ⟨c, k⟩ := ck
  by_cases h : k.val = 0
  · obtain rfl : k = 0 := Fin.ext h
    exact Finset.mem_union_left _ (Finset.mem_map_of_mem barEmb (Finset.mem_univ c))
  · refine Finset.mem_union_right _ ?_
    have e : kcell (c, k) = copyEmb (c, ⟨k.val - 1, by omega⟩) := by
      have e' := kcell_dma c (n := k.val + 5) (by omega) (by omega)
      rw [show (⟨k.val + 5 - 5, by omega⟩ : Fin 13) = k from Fin.ext (by simp)] at e'
      rw [e']
      show ((c : Thread nD τ), SemLoc.dma (dq (k.val + 5) _)) = ((c : Thread nD τ), SemLoc.dma (dq (k.val - 1 + 6) _))
      congr 3; omega
    rw [e]
    exact Finset.mem_map_of_mem copyEmb (Finset.mem_univ _)

def u₀ : UU :=
  (initOf (Pipeline.cells (Pipeline.pin (pcfgs (F := F)) adm) cellOf_inj) (Pipeline.launchToks (Pipeline.pin (pcfgs (F := F)) adm) cellOf_inj),
    launchOf barCells copyCells allToks)

/-- Something that the launch hands out once, left with device `c₀`. -/
def leftWith (c₀ : Dev nD) (X : sProp 𝕄) (c : Dev nD) : sProp 𝕄 := if c = c₀ then X else iprop(emp)
omit [FloatOps F] in
theorem bigSep_leftWith (c₀ : Dev nD) (X : sProp 𝕄) : bigSep Finset.univ (leftWith c₀ X) = X := by
  rw [bigSep_univ_at _ c₀, bigSep_congr (s := Finset.univ.erase c₀) (Ψ := fun _ => (BI.emp : sProp 𝕄))
      fun c hc => by unfold leftWith; rw [if_neg (Finset.ne_of_mem_erase hc)]; rfl, BI.bigSep_emp_const]
  unfold leftWith; rw [if_pos rfl]
  exact BI.equiv_iff.mp sep_emp
def gh : Dev nD → sProp 𝕄 := leftWith 0 (BI.own (ER (launchOf barCells copyCells allToks)))

/-- What everybody may consult: the invariants, and that the barriers have begun. -/
def shared (κ : GSem nD τ sig → ℕ) : sProp 𝕄 :=
  iprop((bigSep (barCells ∪ copyCells) fun g => cellInv ER (rd (wqOf W) (woOf W)) (κ g) g) ∗ bigSep barCells fun g => reached ER g 0)
instance shared_persistent (κ : GSem nD τ sig → ℕ) : BI.Persistent (shared W κ) := by unfold shared; infer_instance

theorem shared_invs (κ : GSem nD τ sig → ℕ) : (bigSep (barCells ∪ copyCells) fun g => (cellInv ER (rd (wqOf W) (woOf W)) (κ g) g : sProp 𝕄)) ⊢ invs (wqOf W) (woOf W) κ := by
  unfold invs
  exact bigSep_intro_persistent fun ck _ => bigSep_elim (kcell_mem ck)
omit [FloatOps F] in
theorem begun (c : Dev nD) : (bigSep barCells fun g => (reached ER g 0 : sProp 𝕄)) ⊢ reached ER (barCell c) 0 :=
  bigSep_elim (Finset.mem_map_of_mem barEmb (Finset.mem_univ c))

/-! ## Dealing the tokens -/

/-- Whose token of the `k`-th kind device `c` is given. -/
def whose (k : Fin 14) : Dev nD ≃ Dev nD :=
  match k.val with
  | 0 | 6 | 11 | 13 => fwd.symm
  | 1 | 5 | 7 | 12 => fwd
  | _ => Equiv.refl _
def dealt : Dev nD × Fin 14 ≃ Dev nD × Fin 14 :=
  ⟨fun p => (whose p.2 p.1, p.2), fun p => ((whose p.2).symm p.1, p.2), fun p => by simp, fun p => by simp⟩

/-- The tokens of the payments that device `c` makes. -/
def mine (c : Dev nD) : sProp 𝕄 :=
  iprop((dutyTok ER (barCell (prv c)) 0 true ∗ dutyTok ER (barCell (nxt c)) 0 false) ∗ toks c ∗ toksR c)

omit [FloatOps F] in
theorem mine_of (c : Dev nD) : (bigSep Finset.univ fun k : Fin 14 => (dutyTok ER ((whose k c : Thread nD τ), tsem k) 0 (tduty k) : sProp 𝕄)) ⊢ mine c := by
  rw [bigSep_univ_eq_bigSepL [0, 1, 2, 3, 4, 5, 6, 7, 8, 9, 10, 11, 12, 13] (by decide) (by decide)]
  simp only [bigSepL_cons_cons, bigSepL_singleton]
  show iprop(dutyTok ER ((whose 0 c : Thread nD τ), tsem 0) 0 (tduty 0) ∗ dutyTok ER ((whose 1 c : Thread nD τ), tsem 1) 0 (tduty 1) ∗ dutyTok ER ((whose 2 c : Thread nD τ), tsem 2) 0 (tduty 2) ∗ dutyTok ER ((whose 3 c : Thread nD τ), tsem 3) 0 (tduty 3) ∗ dutyTok ER ((whose 4 c : Thread nD τ), tsem 4) 0 (tduty 4) ∗ dutyTok ER ((whose 5 c : Thread nD τ), tsem 5) 0 (tduty 5) ∗ dutyTok ER ((whose 6 c : Thread nD τ), tsem 6) 0 (tduty 6) ∗ dutyTok ER ((whose 7 c : Thread nD τ), tsem 7) 0 (tduty 7) ∗ dutyTok ER ((whose 8 c : Thread nD τ), tsem 8) 0 (tduty 8) ∗ dutyTok ER ((whose 9 c : Thread nD τ), tsem 9) 0 (tduty 9) ∗ dutyTok ER ((whose 10 c : Thread nD τ), tsem 10) 0 (tduty 10) ∗ dutyTok ER ((whose 11 c : Thread nD τ), tsem 11) 0 (tduty 11) ∗ dutyTok ER ((whose 12 c : Thread nD τ), tsem 12) 0 (tduty 12) ∗ dutyTok ER ((whose 13 c : Thread nD τ), tsem 13) 0 (tduty 13)) ⊢ _
  unfold mine toks toksR
  iintro ⟨B0, B1, A6, A7, A8, R9, R10, R11, A12, A13, A14, R15, R16, R17⟩
  isplitl [B0 B1]
  · isplitl [B0]; · iexact B0
    iexact B1
  isplitl [A6 A7 A8 A12 A13 A14]
  · isplitl [A6]; · iexact A6
    isplitl [A7]; · iexact A7
    isplitl [A8]; · iexact A8
    isplitl [A12]; · iexact A12
    isplitl [A13]; · iexact A13
    iexact A14
  isplitl [R9]; · iexact R9
  isplitl [R10]; · iexact R10
  isplitl [R11]; · iexact R11
  isplitl [R15]; · iexact R15
  isplitl [R16]; · iexact R16
  iexact R17

omit [FloatOps F] in
theorem deal : (bigSep allToks fun x => (dutyTok ER x.1 x.2.1 x.2.2 : sProp 𝕄)) ⊢ bigSep Finset.univ fun c : Dev nD => (mine c : sProp 𝕄) := by
  unfold allToks
  rw [bigSep_map, bigSep_univ_equiv dealt, bigSep_univ_prod]
  exact bigSep_mono fun c _ => mine_of c

omit [FloatOps F] in
theorem opens_of : (bigSep copyCells fun g => (openTok ER g : sProp 𝕄)) ⊢ bigSep Finset.univ fun c : Dev nD => (opens c : sProp 𝕄) := by
  refine Entails.of_eq ?_
  rw [bigSep_map, bigSep_univ_prod]
  refine bigSep_congr fun c _ => ?_
  rw [bigSep_univ_eq_bigSepL [0, 1, 2, 3, 4, 5, 6, 7, 8, 9, 10, 11] (by decide) (by decide)]
  simp only [bigSepL_cons_cons, bigSepL_singleton]
  rfl

/-! ## The rights to wait -/

abbrev due (d : Dev nD) : CellTallies nD τ sig Unit := Ow d 8

theorem Ow_sum (c : Dev nD) (n : ℕ) (g : GSem nD τ sig) :
    Ow c n g () = ∑ j ∈ Finset.range n, if payCell c j = g then payAmt j else 0 := by
  induction n with
  | zero => rfl
  | succ n ih =>
    rw [Finset.sum_range_succ, ← ih]
    show (Ow c n + tallyAt (payCell c n) () (payAmt n)) g () = _
    rw [Pi.add_apply, Finsupp.add_apply, tallyAt_apply]
    congr 1
    by_cases h : payCell c n = g
    · rw [if_pos h, if_pos ⟨h.symm, rfl⟩]
    · rw [if_neg h, if_neg fun e => h e.1.symm]

/-- What a cell is owed: the payments that name it. -/
theorem owed_to (g : GSem nD τ sig) :
    ∑ d : Dev nD, due d g () = ∑ p ∈ Finset.univ.filter (fun p : Dev nD × Fin 8 => payCell p.1 p.2 = g), payAmt p.2 := by
  rw [Finset.sum_filter, Fintype.sum_prod_type]
  exact Finset.sum_congr rfl fun d _ => by rw [Ow_sum, Finset.sum_range]

/-- The cells that others pay into, and how much. -/
def csem (k : Fin 7) : SemLoc sig :=
  match k with
  | 0 => .reg barS | 1 => .dma (dq 9 (by decide)) | 2 => .dma (dq 10 (by decide)) | 3 => .dma (dq 11 (by decide))
  | 4 => .dma (dq 15 (by decide)) | 5 => .dma (dq 16 (by decide)) | 6 => .dma (dq 17 (by decide))
theorem csem_inj : Function.Injective csem := by decide
def camt (k : Fin 7) : ℕ := match k with | 0 => 2 | 1 | 2 | 3 => Nq | 4 | 5 | 6 => No
/-- Who pays. -/
def payers (c : Dev nD) (k : Fin 7) : Finset (Dev nD × Fin 8) :=
  match k with
  | 0 => {(nxt c, 7), (prv c, 6)} | 1 => {(prv c, 5)} | 2 => {(nxt c, 3)} | 3 => {(prv c, 1)}
  | 4 => {(nxt c, 4)} | 5 => {(prv c, 2)} | 6 => {(nxt c, 0)}
theorem payers_eq : ∀ (c : Dev nD) (k : Fin 7),
    Finset.univ.filter (fun p : Dev nD × Fin 8 => payCell p.1 p.2 = ((c : Thread nD τ), csem k)) = payers c k := by decide +kernel

theorem credit_at (c : Dev nD) (k : Fin 7) :
    tallyOn ((c : Thread nD τ), csem k) (launchCredit (Pipeline.owing due) 0 ((c : Thread nD τ), csem k))
      = (tallyAt ((c : Thread nD τ), csem k) () (camt k) : CellTallies nD τ sig Unit) := by
  unfold tallyAt; refine congrArg _ (Finsupp.ext fun u => ?_); cases u
  rw [Pipeline.launchCredit_owing, Finsupp.single_eq_same, owed_to, payers_eq]
  match k with
  | 0 => exact Finset.sum_pair (by intro e; exact absurd (congrArg Prod.snd e) (show (7 : Fin 8) ≠ 6 by decide))
  | 1 | 2 | 3 | 4 | 5 | 6 => exact Finset.sum_singleton _ _

omit [FloatOps F] in
theorem credits (c : Dev nD) : (Pipeline.launchCred due c : sProp 𝕄) ⊢ iprop(cred (tallyAt (barCell c) () 2) ∗ crds c) := by
  unfold Pipeline.launchCred
  refine (bigSep_subset (Finset.subset_univ (Finset.univ.map ⟨csem, csem_inj⟩))).trans ?_
  rw [bigSep_map]
  refine (bigSep_mono (Ψ := fun k => cred (tallyAt ((c : Thread nD τ), csem k) () (camt k))) fun k _ => Entails.of_eq (congrArg cred (credit_at c k))).trans ?_
  rw [bigSep_univ_eq_bigSepL [0, 1, 2, 3, 4, 5, 6] (by decide) (by decide)]
  simp only [bigSepL_cons_cons, bigSepL_singleton]
  exact BI.Entails.refl _

/-! ## All together -/

omit [FloatOps F] in
theorem unscoped_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

def own0 (c : Dev nD) : sProp 𝕄 := iprop(atPos ER (barCell c) 0 ∅ 0 ∗ opens c ∗ mine c)
def rest0 (H : Dev nD → sProp 𝕄) (c : Dev nD) : sProp 𝕄 :=
  iprop(H c ∗ (cred (tallyAt (barCell c) () 2) ∗ crds c) ∗ owes (c : Thread nD τ) (due c) ∅ ∗ ∃ r, prngReg c r)

theorem ride_intro (H : Dev nD → sProp 𝕄) (κ : GSem nD τ sig → ℕ) (c : Dev nD) :
    iprop(shared W κ ∗ (own0 c ∗ rest0 H c)) ⊢ iprop(H c ∗ ride0 W c) := by
  unfold shared own0 rest0 mine ride0 Tk barGhost
  iintro ⟨⟨#HI, #HR⟩, ⟨Hat, Hop, ⟨B0, B1⟩, Ht, HtR⟩, HH, ⟨Hc2, Hc⟩, HO, Hp⟩
  isplitl [HH]; · iexact HH
  isplitl [Hp]; · iexact Hp
  isplitr [HO]
  · isplitr
    · iexists κ; iapply (shared_invs W κ); iexact HI
    isplitl [Hop]; · iexact Hop
    isplitl [B0 B1 Hc2 Hat]
    · isplitl [B0]; · iexact B0
      isplitr; · iapply (begun (prv c)); iexact HR
      isplitl [B1]; · iexact B1
      isplitr; · iapply (begun (nxt c)); iexact HR
      isplitl [Hc2]; · iexact Hc2
      iexact Hat
    isplitl [Ht]; · iexact Ht
    isplitl [HtR]; · iexact HtR
    iexact Hc
  iexists ∅; iexact HO

theorem start (H U : Dev nD → sProp 𝕄) (hU : ∀ c, U c ⊢ H c) (ρ : Dev nD → PrngReg) :
    iprop((bigSep Finset.univ fun c : Dev nD => iprop(U c ∗ unscopedSems0 c ∗ owes (c : Thread nD τ) (due c) ∅
          ∗ Pipeline.launchCred due c ∗ prngReg c (ρ c) ∗ gh c)) ∗ levAts L lv)
      ⊢ (|={Set.univ}=> bigSep Finset.univ fun c : Dev nD => iprop(H c ∗ ride0 W c) : sProp 𝕄) := by
  have each (c : Dev nD) : iprop(U c ∗ unscopedSems0 c ∗ owes (c : Thread nD τ) (due c) ∅ ∗ Pipeline.launchCred due c ∗ prngReg c (ρ c) ∗ gh c)
      ⊢ (iprop(rest0 H c ∗ (semVal (barCell c) 0 ∗ gh c)) : sProp 𝕄) := by
    rw [unscoped_bar]
    unfold rest0
    refine (BIClass.sep_mono (hU c) (BIClass.sep_mono .rfl (BIClass.sep_mono .rfl (BIClass.sep_mono (credits c) .rfl)))).trans ?_
    iintro ⟨HU, Hs, HO, Hc, Hp, HG⟩
    isplitl [HU HO Hc Hp]
    · isplitl [HU]; · iexact HU
      isplitl [Hc]; · iexact Hc
      isplitl [HO]; · iexact HO
      iexists (ρ c); iexact Hp
    isplitl [Hs] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  refine (sep_mono (bigSep_mono fun c _ => each c) .rfl).trans ?_
  iintro ⟨H, -⟩
  ihave H2 := bigSep_unpair $$ H; icases H2 with ⟨HB, H3⟩
  ihave H4 := bigSep_unpair $$ H3; icases H4 with ⟨Hv, HG⟩
  ihave Hu := (show bigSep Finset.univ (gh (F := F)) ⊢ BI.own (ER (launchOf barCells copyCells allToks)) from
    Entails.of_eq (bigSep_leftWith (F := F) 0 (BI.own (ER (launchOf barCells copyCells allToks))))) $$ HG
  imod (Rounds.fund_launch ER (rd (wqOf W) (woOf W)) cells_apart (fun g _ h => h) allToks) $$ [Hv Hu] with ⟨%κ, -, #Hinv, #Hr, Hat, Hopen, Htok⟩
  · isplitl [Hv]
    · iapply hv $$ Hv
    · iexact Hu
  imodintro
  iapply (bigSep_with_persistent (R := shared W κ) (Φ := fun c => iprop(own0 c ∗ rest0 H c)) fun c _ => ride_intro W H κ c)
  isplitr
  · unfold shared
    isplitr; · iexact Hinv
    iexact Hr
  iapply bigSep_pair
  isplitr [HB]
  · unfold own0
    iapply bigSep_pair; isplitl [Hat]; · iapply hat $$ Hat
    iapply bigSep_pair; isplitl [Hopen]; · iapply (opens_of (F := F)) $$ Hopen
    iapply (deal (F := F)) $$ Htok
  · iexact HB

theorem u₀_split : (ownU (u₀ (F := F)) : sProp 𝕄)
    ⊢ |={Set.univ}=> iprop(BI.own (EP (initOf (Pipeline.cells (Pipeline.pin (pcfgs (F := F)) adm) cellOf_inj) (Pipeline.launchToks (Pipeline.pin (pcfgs (F := F)) adm) cellOf_inj)))
      ∗ bigSep Finset.univ (gh (F := F))) := by
  unfold u₀ gh
  iintro Hu
  ihave H := (ownU_pair _ _) $$ Hu
  icases H with ⟨HP, HX⟩
  imodintro
  isplitl [HP]; · iexact HP
  rw [bigSep_leftWith]; iexact HX

end Cert.KernelIdeal.Ring
-- ==== Proof.Whole.lean ====
/-
The whole program: it ends, its arguments are as they were, the result is what `resOf` says, every counter is zero.
-/
module

public import proofs.«01_k».proof.Proof.Deal

@[expose] public section

noncomputable section

namespace Cert.KernelIdeal.Ring

open Cert.KernelIdeal Cert.KernelIdeal.Gen Cert.Slots
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ
local notation "𝔓" => Prog (TpuEff nD τ sig (Elt F) Λ₀ Proc.tc)

variable (m : (ℓ : Loc nD τ sig) → Buf (Elt F) ℓ) (ρ : Dev nD → PrngReg)

/-- The result's buffer after the call. -/
def outs : Outs (F := F) := fun _ r c => aft (V5 m) c (Proc.devRef .tc r)

theorem V6_eq (c : Dev nD) : V6 m (outs m) c = aft (V5 m) c := by
  unfold V6 outs
  rw [aft_out]
  rfl

/-- What rides beside the buffers. -/
def beside (t : Fin 2) (c : Dev nD) : sProp 𝕄 := match t with | 0 => ride0 (V5 m) c | 1 => ride1 c

def finalQ (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v29) = resOf (V5 m) c ∧ s.sem (barCell c) = 0

theorem only_bar : ∀ sm : SemLoc sig, sm.isScoped .tc = false → sm = .reg barS := by decide

theorem read_end (c : Dev nD) (s' : Phys nD τ sig (Elt F)) :
    iprop((StableHlo.held (c : Thread nD τ) (Pipeline.ucRefs τ sig) (V6 m (outs m) c) ∗ semVal (barCell c) 0) ∗ SI s')
      ⊢ (|={Set.univ}=> iprop(⌜finalQ m c s'.mem⌝ ∗ SI s') : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (V6 m (outs m) c) s') $$ [Hh HSI]
  · isplitl [Hh] <;> iassumption
  icases Hr with ⟨%h, HSI⟩
  imodintro
  isplitr
  · ipureintro
    have at_ (r : Ref sig .tc) (hr : ¬ (Proc.devRef .tc r : DevRef τ sig).isScoped = true) := h (Proc.devRef .tc r) (Finset.mem_filter.mpr ⟨StableHlo.devRef_mem_tcRefs r, hr⟩)
    refine ⟨⟨(at_ main_arg0 (by decide)).trans (V6_main_arg0 m (outs m) c), (at_ main_arg1 (by decide)).trans (V6_main_arg1 m (outs m) c), (at_ main_arg2 (by decide)).trans (V6_main_arg2 m (outs m) c), (at_ main_arg3 (by decide)).trans (V6_main_arg3 m (outs m) c), (at_ main_arg4 (by decide)).trans (V6_main_arg4 m (outs m) c)⟩, ?_, by simpa using hb⟩
    exact (at_ main_v29 (by decide)).trans ((congrFun (V6_eq m c) _).trans (aft_out (V5 m) c))
  iexact HSI

set_option backward.isDefEq.respectTransparency.types false in
theorem run_main : θ_run defs (onTc (τ := τ) (main (F := F))) ⟨m, fun _ => 0, ρ⟩ (fun r => (∀ c : Dev nD, finalQ m c r.2) ∧ r.2.sem = fun _ => 0) :=
  Pipeline.θ_run_regions_kit_dev_sems (pcfgs (F := F)) adm (dats (V5 m)) () cellOf_inj EP defs₀ 𝒱₀ L lv m ρ main
    (segs m 𝒱₀ L lv (beside m) () (dats (V5 m)) (region (V5 m)))
    (fun c Q => by
      rewrite [main_chain c, Pipeline.Seg.run_eq_chain,
        show (segs m 𝒱₀ L lv (beside m) () (dats (V5 m)) (region (V5 m)) c).map Pipeline.Seg.prog = [
          StableHlo.seq (hostOps0 c), StableHlo.seq hostOps0_1, StableHlo.seq hostOps0_2, StableHlo.seq hostOps0_3, StableHlo.seq hostOps0_4,
          Prog.lift (.customCall (Pipeline.entry 0) ())] from rfl]
      dsimp (config := { failIfUnchanged := false }) only
      exact .rfl)
    (fun c => by simp only [segs, Pipeline.Seg.pipes_host, Pipeline.Seg.pipes_region, Pipeline.Seg.pipes_nil]; decide)
    due L_of_ne gh u₀ u₀_split
    (T₀ := fun c => iprop(StableHlo.held (c : Thread nD τ) (Pipeline.ucRefs τ sig) (V0 m c) ∗ ride0 (V5 m) c))
    (Tₙ := fun c => iprop(StableHlo.held (c : Thread nD τ) (Pipeline.ucRefs τ sig) (V6 m (outs m) c) ∗ semVal (barCell c) 0))
    (hch := fun c => ⟨.rfl, .rfl, .rfl, .rfl, .rfl, region_pre (V5 m) c, (region_post (V5 m) c).trans (by
      dsimp only
      rw [V6_eq]; unfold ride1
      iintro ⟨Hh, Hb, HO⟩
      isplitr [HO]
      · isplitl [Hh] <;> iassumption
      iexact HO)⟩)
    (hinit := start (V5 m) (fun c => StableHlo.held (c : Thread nD τ) (Pipeline.ucRefs τ sig) (V0 m c)) _
      (fun c => by rw [← Pipeline.unscopedBufs_held (Ix := Unit) (Name := ℕ) (U := UU) (Lvl := ℕ) c (V0 m c)]) ρ)
    (QY := finalQ m)
    (hfin := read_end m)
    (hQ := fun s h hs => ⟨h, sem_eq_zero hs fun c sm hsm => by
      obtain rfl := only_bar sm hsm
      exact (h c).2.2⟩)

end Cert.KernelIdeal.Ring
-- ==== Proof.Softmax.lean ====
/-
The mathematics, over the extended reals: sums of reals are real, a real factor may be drawn out of a sum, and a weighted mean of
exponentials is the same whether or not a real number is first taken off the exponents (`mean_shift`).
-/
module

public import Idealize.ShloMosaic.Lib.Pointwise
public import Idealize.ShloMosaic.Lib.IdealHost

@[expose] public section

noncomputable section

namespace Cert.Softmax

open Idealize.ShloMosaic

variable {ι : Type} [Fintype ι]

theorem sum_real (f : ι → ℝ) : (∑ i, (f i : EReal)) = ((∑ i, f i : ℝ) : EReal) := by
  classical
  refine Finset.induction_on (motive := fun s => (∑ i ∈ s, (f i : EReal)) = ((∑ i ∈ s, f i : ℝ) : EReal)) Finset.univ rfl fun a s ha ih => ?_
  rw [Finset.sum_insert ha, Finset.sum_insert ha, ih, EReal.coe_add]

theorem sum_times (f : ι → EReal) {r : ℝ} (hr : 0 ≤ r) : (∑ i, f i) * (r : EReal) = ∑ i, f i * (r : EReal) := by
  classical
  refine Finset.induction_on (motive := fun s => (∑ i ∈ s, f i) * (r : EReal) = ∑ i ∈ s, f i * (r : EReal)) Finset.univ (by simp) fun a s ha ih => ?_
  rw [Finset.sum_insert ha, Finset.sum_insert ha, ← ih]
  exact EReal.right_distrib_of_nonneg_of_ne_top (EReal.coe_nonneg.mpr hr) (EReal.coe_ne_top r) _ _

/-- The mean of `v` by the weights `exp (s i)`. -/
def mean (s : ι → ℝ) (v : ι → EReal) : EReal := Ideal.div (∑ i, (Real.exp (s i) : EReal) * v i) (∑ i, (Real.exp (s i) : EReal))

theorem mean_shift [Nonempty ι] (s : ι → ℝ) (v : ι → EReal) (M : ℝ) :
    (∑ i, v i * Ideal.div (Real.exp (s i - M) : EReal) (∑ j, (Real.exp (s j - M) : EReal))) = mean s v := by
  have hpos : ∀ t : ι → ℝ, (∑ i, Real.exp (t i)) ≠ 0 := fun t => ne_of_gt (Finset.sum_pos (fun i _ => Real.exp_pos _) Finset.univ_nonempty)
  have hD : (∑ j, Real.exp (s j - M)) = Real.exp (-M) * ∑ j, Real.exp (s j) := by
    rw [Finset.mul_sum]
    exact Finset.sum_congr rfl fun j _ => by rw [← Real.exp_add]; congr 1; ring
  unfold mean
  rw [sum_real, sum_real, Ideal.div_coe (hpos s), sum_times _ (by have := Finset.sum_pos (fun i (_ : i ∈ Finset.univ) => Real.exp_pos (s i)) Finset.univ_nonempty; positivity)]
  refine Finset.sum_congr rfl fun i _ => ?_
  rw [Ideal.div_coe (hpos _), mul_comm (Real.exp (s i) : EReal), mul_assoc, ← EReal.coe_mul, ← EReal.coe_mul, hD]
  congr 2
  have h0 := hpos s
  have h1 := Real.exp_pos (-M)
  rw [sub_eq_add_neg, Real.exp_add]
  field_simp

/-- The score of a query row `x · w` against a key, times 1/8. -/
def score {K E : Type} [Fintype K] [Fintype E] (x : K → ℝ) (w : K → E → ℝ) (κ : E → ℝ) : ℝ := (∑ e, (∑ k, x k * w k e) * κ e) * (1 / 8)

variable {K E : Type} [Fintype K] [Fintype E] (x : K → ℝ) (w : K → E → ℝ) (κ : E → ℝ)

/-- The score, the factor taken last. -/
theorem score_last : (∑ e, (∑ k, (x k : EReal) * (w k e : EReal)) * (κ e : EReal)) * ((1 / 8 : ℝ) : EReal) = (score x w κ : EReal) := by
  simp only [← EReal.coe_mul, sum_real]
  rfl

/-- The score, the factor taken first. -/
theorem score_first : (∑ e, (∑ k, ((x k : EReal) * ((1 / 8 : ℝ) : EReal)) * (w k e : EReal)) * (κ e : EReal)) = (score x w κ : EReal) := by
  simp only [← EReal.coe_mul, sum_real]
  congr 1
  unfold score
  rw [Finset.sum_mul]
  refine Finset.sum_congr rfl fun e _ => ?_
  rw [Finset.sum_mul, Finset.sum_mul, Finset.sum_mul]
  exact Finset.sum_congr rfl fun k _ => by ring

theorem eighth_bf16 : Ideal.ofBits .bf16 0x3E00#16 = ((1 / 8 : ℝ) : EReal) := by
  simp [Ideal.ofBits, Ideal.ieee, -EReal.coe_mul]; norm_num
theorem eighth_f32 : Ideal.ofBits .f32 0x3E000000#32 = ((1 / 8 : ℝ) : EReal) := by
  simp [Ideal.ofBits, Ideal.ieee, -EReal.coe_mul]; norm_num

/-- The largest of finitely many reals, folded from below every real, is a real. -/
theorem fold_max_real [Nonempty ι] (f : ι → ℝ) : ∃ M : ℝ, (Finset.univ.fold max (⊥ : EReal) fun i => (f i : EReal)) = (M : EReal) := by
  classical
  suffices h : ∀ s : Finset ι, (s.fold max (⊥ : EReal) fun i => (f i : EReal)) = ⊥ ∧ s = ∅ ∨ ∃ M : ℝ, (s.fold max (⊥ : EReal) fun i => (f i : EReal)) = (M : EReal) by
    rcases h Finset.univ with ⟨_, h⟩ | h
    · exact absurd h (Finset.univ_nonempty.ne_empty)
    · exact h
  intro s
  induction s using Finset.induction_on with
  | empty => exact .inl ⟨Finset.fold_empty, rfl⟩
  | insert a s ha ih =>
    right
    rw [Finset.fold_insert ha]
    rcases ih with ⟨h, _⟩ | ⟨M, h⟩
    · exact ⟨f a, by rw [h]; exact max_eq_left bot_le⟩
    · exact ⟨max (f a) M, by rw [h]; exact ((EReal.coe_strictMono.monotone).map_max (a := f a) (b := M)).symm⟩

/-- The softmax, its largest score taken off first, applied to `v`. -/
theorem softmax_mean [Nonempty ι] (s : ι → ℝ) (v : ι → EReal) :
    (∑ x, v x * Ideal.div (Ideal.exp ((s x : EReal) - Finset.univ.fold max (⊥ : EReal) fun y => (s y : EReal)))
      (∑ y, Ideal.exp ((s y : EReal) - Finset.univ.fold max (⊥ : EReal) fun y => (s y : EReal)))) = mean s v := by
  obtain ⟨M, hM⟩ := fold_max_real s
  rw [hM, ← mean_shift s v M]
  rfl

/-- What the test of the precondition says of an element: it is a real number. -/
theorem real_of_test {a : EReal} (h : max a (-a) < ⊤) : ∃ r : ℝ, a = (r : EReal) := by
  induction a with
  | bot => exact absurd h (by simp)
  | top => exact absurd h (by simp)
  | coe r => exact ⟨r, rfl⟩

end Cert.Softmax
-- ==== Proof.KValue.lean ====
/-
The kernel's result, element by element.
-/
module

public import proofs.«01_k».proof.Proof.Block
public import proofs.«01_k».proof.Proof.Softmax

@[expose] public section

noncomputable section

namespace Cert.KernelIdeal.Ring

open Cert.KernelIdeal Cert.KernelIdeal.Gen
open Idealize.ShloMosaic
open Idealize.ShloMosaic.TcCoe

theorem qOf_at (X : FVec Ideal S256x512 .bf16) (Q : FVec Ideal S1x512x256 .bf16) (n l : Fin 256) :
    (qOf (F := Ideal) X Q) (ix2 n l) = ∑ k : Fin 512, X (ix2 n k) * Q (ix3 0 k l) := by
  unfold qOf k0_pay3
  pointwise

theorem attn_at (q : FVec Ideal S256x256 .f32) (b h : ℕ) (hb : b < 2) (hh : h < 4) (kt : FVec Ideal S1x64x128 .bf16) (v : FVec Ideal S1x128x64 .bf16)
    (r : Fin 128) (dd : Fin 64) :
    attn (F := Ideal) q b h (slc hb hh) kt v (ix2 r dd)
      = Ideal.div (∑ j : Fin 128, Ideal.exp (∑ e : Fin 64, q (ix2 ⟨128 * b + r.val, by omega⟩ ⟨64 * h + e.val, by omega⟩) * kt (ix3 0 e j)) * v (ix3 0 j dd))
        (∑ j : Fin 128, Ideal.exp (∑ e : Fin 64, q (ix2 ⟨128 * b + r.val, by omega⟩ ⟨64 * h + e.val, by omega⟩) * kt (ix3 0 e j))) := by
  unfold attn
  pointwise

theorem rK_at (KT : FVec Ideal S2x64x2048 .bf16) (b n : ℕ) (hb : b < 2) (hn : n + 128 ≤ 2048) (e : Fin 64) (j : Fin 128) :
    rK (F := Ideal) KT b n (inK hb hn) (ix3 0 e j) = KT (ix3 ⟨b, hb⟩ e ⟨n + j.val, by omega⟩) :=
  congrArg KT (funext fun a => match a with
    | ⟨0, _⟩ => Fin.ext rfl
    | ⟨1, _⟩ => Fin.ext (by show 0 + 1 * e.val = e.val; omega)
    | ⟨2, _⟩ => Fin.ext (by show n + 1 * j.val = n + j.val; omega))

theorem rV_at (V : FVec Ideal S2x128x1024 .bf16) (b n : ℕ) (hb : b < 2) (hn : n + 64 ≤ 1024) (j : Fin 128) (dd : Fin 64) :
    rV (F := Ideal) V b n (inV hb hn) (ix3 0 j dd) = V (ix3 ⟨b, hb⟩ j ⟨n + dd.val, by omega⟩) :=
  congrArg V (funext fun a => match a with
    | ⟨0, _⟩ => Fin.ext rfl
    | ⟨1, _⟩ => Fin.ext (by show 0 + 1 * j.val = j.val; omega)
    | ⟨2, _⟩ => Fin.ext (by show n + 1 * dd.val = n + dd.val; omega))

/-- One element of one head: block `d`, batch row `b`, head `h` of the block, row `r`, column `dd`. -/
def elt (q : FVec Ideal S256x256 .f32) (KT : FVec Ideal S2x64x2048 .bf16) (V : FVec Ideal S2x128x1024 .bf16) (d b h : ℕ) (hd : d < 4) (hb : b < 2) (hh : h < 4)
    (r : Fin 128) (dd : Fin 64) : EReal :=
  Ideal.div (∑ j : Fin 128, Ideal.exp (∑ e : Fin 64, q (ix2 ⟨128 * b + r.val, by omega⟩ ⟨64 * h + e.val, by omega⟩) * KT (ix3 ⟨b, hb⟩ e ⟨(d * 4 + h) * 128 + j.val, by omega⟩))
      * V (ix3 ⟨b, hb⟩ j ⟨(d * 4 + h) * 64 + dd.val, by omega⟩))
    (∑ j : Fin 128, Ideal.exp (∑ e : Fin 64, q (ix2 ⟨128 * b + r.val, by omega⟩ ⟨64 * h + e.val, by omega⟩) * KT (ix3 ⟨b, hb⟩ e ⟨(d * 4 + h) * 128 + j.val, by omega⟩)))

theorem elt_congr (q : FVec Ideal S256x256 .f32) (KT : FVec Ideal S2x64x2048 .bf16) (V : FVec Ideal S2x128x1024 .bf16) (d : ℕ) (hd : d < 4) {b b' h h' : ℕ} (hb : b < 2) (hh : h < 4)
    (hb' : b' < 2) (hh' : h' < 4) {r r' : Fin 128} {dd dd' : Fin 64} (e0 : b = b') (e1 : h = h') (e2 : r = r') (e3 : dd = dd') :
    elt q KT V d b h hd hb hh r dd = elt q KT V d b' h' hd hb' hh' r' dd' := by
  subst e0 e1 e2 e3; rfl

theorem head_at (q : FVec Ideal S256x256 .f32) (KT : FVec Ideal S2x64x2048 .bf16) (V : FVec Ideal S2x128x1024 .bf16) (d b h : ℕ) (hd : d < 4) (hb : b < 2) (hh : h < 4)
    (r : Fin 128) (dd : Fin 64) : head (F := Ideal) q KT V d b h hd hb hh (ix2 r dd) = elt q KT V d b h hd hb hh r dd := by
  unfold head elt
  rw [attn_at q b h hb hh]
  simp only [rK_at KT b ((d * 4 + h) * 128) hb (by omega), rV_at V b ((d * 4 + h) * 64) hb (by omega)]

theorem heads_at (q : FVec Ideal S256x256 .f32) (KT : FVec Ideal S2x64x2048 .bf16) (V : FVec Ideal S2x128x1024 .bf16) (d b : ℕ) (hd : d < 4) (hb : b < 2)
    (r : Fin 128) (l : Fin 256) :
    heads (F := Ideal) q KT V d b hd hb (ix2 r l) = elt q KT V d b (l.val / 64) hd hb (by omega) r ⟨l.val % 64, by omega⟩ := by
  unfold heads
  pointwise
  simp only [head_at]
  split_ifs <;> exact elt_congr q KT V d hd _ _ _ _ rfl (by dsimp only at *; omega) rfl (Fin.ext (by dsimp only at *; omega))

theorem blk_at (X : FVec Ideal S256x512 .bf16) (KT : FVec Ideal S2x64x2048 .bf16) (V : FVec Ideal S2x128x1024 .bf16) (d : ℕ) (hd : d < 4)
    (Q : FVec Ideal S1x512x256 .bf16) (O : FVec Ideal S1x256x512 .bf16) (n : Fin 256) (y : Fin 512) :
    blk (F := Ideal) X KT V d hd Q O (ix2 n y)
      = ∑ l : Fin 256, elt (qOf (F := Ideal) X Q) KT V d (n.val / 128) (l.val / 64) hd (by omega) (by omega) ⟨n.val % 128, by omega⟩ ⟨l.val % 64, by omega⟩ * O (ix3 0 l y) := by
  unfold blk
  pointwise
  refine Finset.sum_congr rfl fun l _ => congrArg (· * O (ix3 0 l y)) ?_
  simp only [heads_at]
  have hn : n.val < 256 := n.isLt
  split_ifs <;> exact elt_congr _ KT V d hd _ _ _ _ (by omega) rfl (Fin.ext (by dsimp only at *; omega)) rfl

end Cert.KernelIdeal.Ring
-- ==== Proof.Host.lean ====
/-
What the host's operations leave for the kernel, element by element: the keys of the device's own batch rows, transposed and rolled
so that the device's own heads come first (`keys_eq`), the values likewise (`values_eq`), and the activations times 1/8 (`acts_eq`).
-/
module

public import proofs.«01_k».proof.Proof.Gen.KernelIdeal.Regions
public import Idealize.ShloMosaic.Lib.StableHlo.RunClose
public import Idealize.ShloMosaic.Lib.DynamicIndex
public import Idealize.ShloMosaic.Lib.Pointwise

@[expose] public section

noncomputable section

namespace Cert.KernelIdeal.Ring

open Cert.KernelIdeal Cert.KernelIdeal.Gen
open Idealize.ShloMosaic Idealize.ShloMosaic.StableHlo
open Idealize.ShloMosaic.TcCoe

variable {F : FTy → Type} [FloatOps F]

/-! ## The words -/

/-- Device `c`'s shift, `-c * 4 * n`, on words. -/
def shift (c : Dev nD) (n : BitVec 32) : BitVec 32 := -(BitVec.ofNat 32 c.val) * 4#32 * n

theorem shift_word : ∀ (c : Dev nD) (n : BitVec 32),
    IntOp.muli (IntOp.muli (-(IntOp.remui .host (IntOp.divui .host (Dev.word c) 1#32) 4#32)) 4#32) n = shift c n := fun c n =>
  congrArg (· * n) (congrArg (fun w : BitVec 32 => -w * 4#32)
    ((by decide +kernel : ∀ c : Dev nD, IntOp.remui .host (IntOp.divui .host (Dev.word c) 1#32) 4#32 = BitVec.ofNat 32 c.val) c))

/-- The remainder of a shift `x` by the extent `n`, of the divisor's sign, as the program computes it. -/
def remW (n x : BitVec 32) : BitVec 32 :=
  let d := Scalar.select (IntOp.cmpi .eq (IntOp.maxsi n 1#32) 0#32) 1#32 (IntOp.maxsi n 1#32)
  let r := IntOp.remsi .host x d
  Scalar.select (IntOp.andi (IntOp.cmpi .ne (IntOp.cmpi .slt r 0#32) (IntOp.cmpi .slt d 0#32)) (IntOp.cmpi .ne r 0#32)) (IntOp.addi r d) r
/-- Where the program starts reading the doubled array, for a shift `x` by the extent `n`. -/
def startW (n n2 x : BitVec 32) : BitVec 32 :=
  Scalar.select (IntOp.cmpi .slt (IntOp.subi n (remW n x)) 0#32) (IntOp.addi (IntOp.subi n (remW n x)) n2) (IntOp.subi n (remW n x))

/-- The same as a number, for a shift by `k` columns a device: between 1 and the extent `n`, and `k * c` up to a multiple of it. -/
def origin (n k : ℕ) (c : Dev nD) : ℕ := (k * c.val + n - 1) % n + 1

theorem start_wordK : ∀ c : Dev nD, (startW 2048#32 4096#32 (shift c 128#32)).toInt = (origin 2048 512 c : ℤ) := by
  decide +kernel
theorem start_wordV : ∀ c : Dev nD, (startW 1024#32 2048#32 (shift c 64#32)).toInt = (origin 1024 256 c : ℤ) := by
  decide +kernel

theorem start_leK (c : Dev nD) : origin 2048 512 c ≤ 2048 := by unfold origin; omega
theorem start_leV (c : Dev nD) : origin 1024 256 c ≤ 1024 := by unfold origin; omega

theorem third (a b d : IVec S_ 32) (h : 2 < 3) : (![a, b, d] : Fin 3 → IVec S_ 32) ⟨2, h⟩ = d := rfl

/-! ## The stretches, each over any contents before it -/

theorem rows (c : Dev nD) : S8x128x16x64.Slices (![2 * c.val, 0, 0, 0] : Fin 4 → ℕ) S2x128x16x64 :=
  ⟨rfl, fun a => match a with
    | ⟨0, _⟩ => (by have : c.val < 4 := c.isLt; show 2 * c.val + 2 ≤ 8; omega)
    | ⟨1, _⟩ => Nat.le_refl 128
    | ⟨2, _⟩ => Nat.le_refl 16
    | ⟨3, _⟩ => Nat.le_refl 64⟩
theorem turnK {p : ℕ} (hp : p ≤ 2048) : S2x64x4096.Slices (![0, 0, p] : Fin 3 → ℕ) S2x64x2048 :=
  ⟨rfl, fun a => match a with
    | ⟨0, _⟩ => Nat.le_refl 2
    | ⟨1, _⟩ => Nat.le_refl 64
    | ⟨2, _⟩ => (by show p + 2048 ≤ 4096; omega)⟩
theorem turnV {p : ℕ} (hp : p ≤ 1024) : S2x128x2048.Slices (![0, 0, p] : Fin 3 → ℕ) S2x128x1024 :=
  ⟨rfl, fun a => match a with
    | ⟨0, _⟩ => Nat.le_refl 2
    | ⟨1, _⟩ => Nat.le_refl 128
    | ⟨2, _⟩ => (by show p + 1024 ≤ 2048; omega)⟩

section Stretches
variable (V : Valuation τ sig (Elt F))

set_option maxRecDepth 8192 in
theorem dev_word (c : Dev nD) : StableHlo.after (hostOps0 c) V (Proc.devRef .tc main_v4)
    = (fun _ => IntOp.remui .host (IntOp.divui .host (Dev.word c) 1#32) 4#32 : IVec S_ 32) := by
  simp only [hostOps0]
  after_results_simp_entrywise
  rfl

set_option maxRecDepth 8192 in
theorem v19_eq (c : Dev nD) : StableHlo.after (hostOps0 c) V (Proc.devRef .tc main_v19) = constantI S_ 32 (shift c 128#32) := by
  simp only [hostOps0]
  after_results_simp_entrywise
  exact funext fun _ => shift_word c _

set_option maxRecDepth 8192 in
theorem v16_eq (c : Dev nD) : StableHlo.after (hostOps0 c) V (Proc.devRef .tc main_v16) = shapeCast S2x64x2048 (transpose S2x64x16x128 [0, 3, 2, 1]
    (extractStridedSlice S2x128x16x64 ![2 * c.val, 0, 0, 0] (V main_arg2 : Vec F S8x128x16x64 .bf16) (rows c)) transposes_S2x128x16x64_S2x64x16x128_0_3_2_1)
    shapeCasts_S2x64x16x128_S2x64x2048 := by
  simp only [hostOps0]
  after_results_simp_entrywise
  rw [Host.dynamicSlice_eq_extractStridedSlice S2x128x16x64 _ _ ![2 * c.val, 0, 0, 0] _ (rows c)]
  · rfl
  · intro a
    match a with
    | ⟨0, _⟩ => match c with
      | 0 => rfl
      | 1 => rfl
      | 2 => rfl
      | 3 => rfl
    | ⟨1, _⟩ => rfl
    | ⟨2, _⟩ => rfl
    | ⟨3, _⟩ => rfl

set_option maxRecDepth 8192 in
theorem v14_eq (c : Dev nD) : StableHlo.after (hostOps0 c) V (Proc.devRef .tc main_v14)
    = extractStridedSlice S2x128x16x64 ![2 * c.val, 0, 0, 0] (V main_arg3 : Vec F S8x128x16x64 .bf16) (rows c) := by
  simp only [hostOps0]
  after_results_simp_entrywise
  rw [Host.dynamicSlice_eq_extractStridedSlice S2x128x16x64 _ _ ![2 * c.val, 0, 0, 0] _ (rows c)]
  · intro a
    match a with
    | ⟨0, _⟩ => match c with
      | 0 => rfl
      | 1 => rfl
      | 2 => rfl
      | 3 => rfl
    | ⟨1, _⟩ => rfl
    | ⟨2, _⟩ => rfl
    | ⟨3, _⟩ => rfl

set_option maxRecDepth 8192 in
theorem v20_eq (x : BitVec 32) (p : ℕ) (hp : p ≤ 2048) (hx : (startW 2048#32 4096#32 x).toInt = (p : ℤ)) (h : V main_v19 = constantI S_ 32 x) :
    StableHlo.after hostOps0_1 V (Proc.devRef .tc main_v20) = extractStridedSlice S2x64x2048 ![0, 0, p]
      (concatenate S2x64x4096 2 [⟨S2x64x2048, V main_v16⟩, ⟨S2x64x2048, V main_v16⟩] concatenates_S2x64x2048_S2x64x2048_S2x64x4096_d2) (turnK hp) := by
  simp only [hostOps0_1, TRef.ternary, TRef.unary, TRef.binary, TRef.nullary, TRef.reshape, TRef.toBuf, TRef.ofBuf, cast_eq]
  after_results_simp_entrywise
  rw [Host.dynamicSlice_eq_extractStridedSlice S2x64x2048 _ _ ![0, 0, p] _ (turnK hp)]
  · rfl
  · rw [h]
    intro a
    match a with
    | ⟨0, _⟩ => rfl
    | ⟨1, _⟩ => rfl
    | ⟨2, _⟩ =>
      refine Eq.trans (b := (startW 2048#32 4096#32 x).toInt) (congrArg BitVec.toInt ((congrFun (third _ _ _ _) _).trans ?_)) (hx.trans rfl)
      simp only [TRef.ofBuf, cast_eq, startW, remW]
      pointwise

set_option maxRecDepth 8192 in
theorem v25_eq (x : BitVec 32) (p : ℕ) (hp : p ≤ 1024) (hx : (startW 1024#32 2048#32 x).toInt = (p : ℤ)) (h : V main_v24 = constantI S_ 32 x) :
    StableHlo.after hostOps0_3 V (Proc.devRef .tc main_v25) = extractStridedSlice S2x128x1024 ![0, 0, p]
      (concatenate S2x128x2048 2 [⟨S2x128x1024, V main_v21⟩, ⟨S2x128x1024, V main_v21⟩] concatenates_S2x128x1024_S2x128x1024_S2x128x2048_d2) (turnV hp) := by
  simp only [hostOps0_3, TRef.ternary, TRef.unary, TRef.binary, TRef.nullary, TRef.reshape, TRef.toBuf, TRef.ofBuf, cast_eq]
  after_results_simp_entrywise
  rw [Host.dynamicSlice_eq_extractStridedSlice S2x128x1024 _ _ ![0, 0, p] _ (turnV hp)]
  · rfl
  · rw [h]
    intro a
    match a with
    | ⟨0, _⟩ => rfl
    | ⟨1, _⟩ => rfl
    | ⟨2, _⟩ =>
      refine Eq.trans (b := (startW 1024#32 2048#32 x).toInt) (congrArg BitVec.toInt ((congrFun (third _ _ _ _) _).trans ?_)) (hx.trans rfl)
      simp only [TRef.ofBuf, cast_eq, startW, remW]
      pointwise

theorem v24_eq (w : BitVec 32) (h : V main_v4 = (fun _ => w : IVec S_ 32)) :
    StableHlo.after hostOps0_2 V (Proc.devRef .tc main_v24) = (fun _ => IntOp.muli (IntOp.muli (-w) 4#32) 64#32 : IVec S_ 32) := by
  simp only [hostOps0_2]
  after_results_simp_entrywise
  rw [h]; rfl

theorem v21_eq : StableHlo.after hostOps0_2 V (Proc.devRef .tc main_v21)
    = shapeCast S2x128x1024 (V main_v14 : Vec F S2x128x16x64 .bf16) shapeCasts_S2x128x16x64_S2x128x1024 := by
  simp only [hostOps0_2]
  after_results_simp_entrywise
  rfl

theorem v28_eq : StableHlo.after hostOps0_4 V (Proc.devRef .tc main_v28)
    = shapeCast S256x512 (mulf (V main_arg0 : FVec F S2x128x512 .bf16) (broadcastInDim S2x128x512 ![] bcast_S_S2x128x512 (constant S_ .bf16 0x3E00#16)) : FVec F S2x128x512 .bf16)
      shapeCasts_S2x128x512_S256x512 := by
  simp only [hostOps0_4]
  after_results_simp_entrywise
  rfl

end Stretches

/-! ## The kernel's operands, element by element -/

/-- The doubled keys read from `p` on, at column `n`. -/
theorem rollK_at (x : Vec F S2x64x2048 .bf16) (p : ℕ) (hp : p ≤ 2048) (b : Fin 2) (e : Fin 64) (n : Fin 2048) :
    extractStridedSlice S2x64x2048 ![0, 0, p] (concatenate S2x64x4096 2 [⟨S2x64x2048, x⟩, ⟨S2x64x2048, x⟩] concatenates_S2x64x2048_S2x64x2048_S2x64x4096_d2)
      (turnK hp) (ix3 b e n) = x (ix3 b e ⟨(n.val + p) % 2048, Nat.mod_lt _ (by decide)⟩) := by
  pointwise
  have : n.val < 2048 := n.isLt
  split <;> exact congrArg (fun z => x (ix3 b e z)) (Fin.ext (by dsimp only; omega))

/-- The doubled values read from `p` on, at column `n`. -/
theorem rollV_at (x : Vec F S2x128x1024 .bf16) (p : ℕ) (hp : p ≤ 1024) (b : Fin 2) (j : Fin 128) (n : Fin 1024) :
    extractStridedSlice S2x128x1024 ![0, 0, p] (concatenate S2x128x2048 2 [⟨S2x128x1024, x⟩, ⟨S2x128x1024, x⟩] concatenates_S2x128x1024_S2x128x1024_S2x128x2048_d2)
      (turnV hp) (ix3 b j n) = x (ix3 b j ⟨(n.val + p) % 1024, Nat.mod_lt _ (by decide)⟩) := by
  pointwise
  have : n.val < 1024 := n.isLt
  split <;> exact congrArg (fun z => x (ix3 b j z)) (Fin.ext (by dsimp only; omega))

/-- Row `b` of device `c`'s two, among the eight. -/
abbrev ofRow (c : Dev nD) (b : Fin 2) : Fin 8 := ⟨2 * c.val + b.val, by have : c.val < 4 := c.isLt; omega⟩

theorem keysT_at (x : Vec F S8x128x16x64 .bf16) (c : Dev nD) (b : Fin 2) (e : Fin 64) (n : Fin 2048) :
    shapeCast S2x64x2048 (transpose S2x64x16x128 [0, 3, 2, 1]
    (extractStridedSlice S2x128x16x64 ![2 * c.val, 0, 0, 0] x (rows c)) transposes_S2x128x16x64_S2x64x16x128_0_3_2_1)
    shapeCasts_S2x64x16x128_S2x64x2048 (ix3 b e n) = x (ix4 (ofRow c b) ⟨n.val % 128, by omega⟩ ⟨n.val / 128, by omega⟩ e) := by
  pointwise

theorem vals_at (x : Vec F S8x128x16x64 .bf16) (c : Dev nD) (b : Fin 2) (j : Fin 128) (n : Fin 1024) :
    shapeCast S2x128x1024 (extractStridedSlice S2x128x16x64 ![2 * c.val, 0, 0, 0] x (rows c))
    shapeCasts_S2x128x16x64_S2x128x1024 (ix3 b j n) = x (ix4 (ofRow c b) j ⟨n.val / 64, by omega⟩ ⟨n.val % 64, by omega⟩) := by
  pointwise

variable (m : (ℓ : Loc nD τ sig) → Buf (Elt F) ℓ) (c : Dev nD)

/-- Head `k` of the kernel's order on device `c`, among the sixteen: the device's own four come first. -/
abbrev turn (k : ℕ) : Fin 16 := ⟨(k + 4 * c.val) % 16, Nat.mod_lt _ (by decide)⟩

/-- The keys at the call. -/
theorem keys_eq (b : Fin 2) (e : Fin 64) (n : Fin 2048) :
    (V5 m c main_v20 : Vec F S2x64x2048 .bf16) (ix3 b e n)
      = (m ((c.tc : Thread nD τ).loc main_arg2) : Vec F S8x128x16x64 .bf16) (ix4 (ofRow c b) ⟨n.val % 128, by omega⟩ (turn c (n.val / 128)) e) := by
  rw [V5_of m c main_v20 (by decide), V4_of m c main_v20 (by decide), V3_of m c main_v20 (by decide),
    show V2 m c main_v20 = _ from v20_eq (V1 m c) (shift c 128#32) (origin 2048 512 c) (start_leK c) (start_wordK c) (v19_eq (V0 m c) c),
    rollK_at _ _ (start_leK c),
    show V1 m c main_v16 = _ from v16_eq (V0 m c) c, keysT_at]
  have hc : c.val < 4 := c.isLt
  exact congrArg₂ (fun z w => (m ((c.tc : Thread nD τ).loc main_arg2) : Vec F S8x128x16x64 .bf16) (ix4 (ofRow c b) z w e))
    (Fin.ext (by show (n.val + ((512 * c.val + 2048 - 1) % 2048 + 1)) % 2048 % 128 = n.val % 128; omega))
    (Fin.ext (by show (n.val + ((512 * c.val + 2048 - 1) % 2048 + 1)) % 2048 / 128 = (n.val / 128 + 4 * c.val) % 16; omega))

/-- The values at the call. -/
theorem values_eq (b : Fin 2) (j : Fin 128) (n : Fin 1024) :
    (V5 m c main_v25 : Vec F S2x128x1024 .bf16) (ix3 b j n)
      = (m ((c.tc : Thread nD τ).loc main_arg3) : Vec F S8x128x16x64 .bf16) (ix4 (ofRow c b) j (turn c (n.val / 64)) ⟨n.val % 64, by omega⟩) := by
  have h4 : V2 m c main_v4 = (fun _ => IntOp.remui .host (IntOp.divui .host (Dev.word c) 1#32) 4#32 : IVec S_ 32) :=
    (V2_of m c main_v4 (by decide)).trans (dev_word (V0 m c) c)
  rw [V5_of m c main_v25 (by decide),
    show V4 m c main_v25 = _ from v25_eq (V3 m c) (shift c 64#32) (origin 1024 256 c) (start_leV c) (start_wordV c)
      ((v24_eq (V2 m c) _ h4).trans (funext fun _ => shift_word c 64#32)), rollV_at _ _ (start_leV c),
    show V3 m c main_v21 = _ from v21_eq (V2 m c), V2_of m c main_v14 (by decide), show V1 m c main_v14 = _ from v14_eq (V0 m c) c, vals_at]
  have hc : c.val < 4 := c.isLt
  exact congrArg₂ (fun z w => (m ((c.tc : Thread nD τ).loc main_arg3) : Vec F S8x128x16x64 .bf16) (ix4 (ofRow c b) j z w))
    (Fin.ext (by show (n.val + ((256 * c.val + 1024 - 1) % 1024 + 1)) % 1024 / 64 = (n.val / 64 + 4 * c.val) % 16; omega))
    (Fin.ext (by show (n.val + ((256 * c.val + 1024 - 1) % 1024 + 1)) % 1024 % 64 = n.val % 64; omega))

/-- The activations at the call, by row of the two batch rows. -/
theorem acts_eq (n : Fin 256) (k : Fin 512) :
    (V5 m c main_v28 : FVec F S256x512 .bf16) (ix2 n k)
      = FloatOps.mulf ((m ((c.tc : Thread nD τ).loc main_arg0) : FVec F S2x128x512 .bf16) (ix3 ⟨n.val / 128, by omega⟩ ⟨n.val % 128, by omega⟩ k))
        (FloatOps.ofBits .bf16 0x3E00#16) := by
  rw [show V5 m c main_v28 = _ from v28_eq (V4 m c), V4_of m c main_arg0 (by decide), V3_of m c main_arg0 (by decide), V2_of m c main_arg0 (by decide), V1_of m c main_arg0 (by decide)]
  pointwise

end Cert.KernelIdeal.Ring
-- ==== Proof.Value.lean ====
/-
The kernel's result on device `c` is rows `2 c` and `2 c + 1` of what the reference computes: each device's four blocks are the sixteen
heads in an order of its own, and the sum over the blocks is the sum over all 1024 columns (`device_at`).
-/
module

public import proofs.«01_k».proof.Proof.KValue
public import proofs.«01_k».proof.Proof.Host
public import Idealize.ShloMosaic.Lib.Pipeline.ValueKit.Acc

@[expose] public section

noncomputable section

namespace Cert.KernelIdeal.Ring

open Cert.KernelIdeal Cert.KernelIdeal.Gen
open Idealize.ShloMosaic
open Idealize.ShloMosaic.TcCoe
open Cert.Softmax (mean score)

section Sums
variable (xr : Fin 8 → Fin 128 → Fin 512 → ℝ) (wr : Fin 512 → Fin 1024 → ℝ) (kr : Fin 8 → Fin 128 → Fin 16 → Fin 64 → ℝ)
  (vf : Fin 8 → Fin 128 → Fin 16 → Fin 64 → EReal) (of : Fin 1024 → Fin 512 → EReal)

/-- Head `H` of batch row `b`, at row `i` and column `e`. -/
def att (b : Fin 8) (i : Fin 128) (H : Fin 16) (e : Fin 64) : EReal :=
  mean (fun j : Fin 128 => score (xr b i) (fun k (e : Fin 64) => wr k ⟨H.val * 64 + e.val, by omega⟩) (kr b j H)) (fun j => vf b j H e)

/-- One column's contribution to the result at row `i` and column `n` of batch row `b`. -/
def term (b : Fin 8) (i : Fin 128) (n : Fin 512) (J : Fin 1024) : EReal :=
  att xr wr kr vf b i ⟨J.val / 64, by omega⟩ ⟨J.val % 64, by omega⟩ * of J n

variable (c : Dev nD)

theorem hd_lt (d h : ℕ) (hh : h < 4) : (dv c d).val * 4 + h < 16 := by have : (dv c d).val < 4 := (dv c d).isLt; omega
theorem col_lt (d : ℕ) (l : Fin 256) : (dv c d).val * 256 + l.val < 1024 := by have : (dv c d).val < 4 := (dv c d).isLt; omega
theorem keyCol_lt (d h : ℕ) (hd4 : d < 4) (hh : h < 4) (j : Fin 128) : (d * 4 + h) * 128 + j.val < 2048 := by omega
theorem valCol_lt (d h : ℕ) (hd4 : d < 4) (hh : h < 4) (e : Fin 64) : (d * 4 + h) * 64 + e.val < 1024 := by omega

/-- Head `h` of block `d` on device `c`, among the sixteen. -/
abbrev hd (d h : ℕ) (hh : h < 4) : Fin 16 := ⟨(dv c d).val * 4 + h, hd_lt c d h hh⟩
/-- Column `l` of block `d` on device `c`, among all. -/
abbrev col (d : ℕ) (l : Fin 256) : Fin 1024 := ⟨(dv c d).val * 256 + l.val, col_lt c d l⟩

variable {X : FVec Ideal S256x512 .bf16} {KT : FVec Ideal S2x64x2048 .bf16} {V : FVec Ideal S2x128x1024 .bf16}
  (hX : ∀ (b : Fin 2) (r : Fin 128) (k : Fin 512), X (ix2 (row b r) k) = (xr (ofRow c b) r k : EReal) * ((1 / 8 : ℝ) : EReal))
  (hK : ∀ (b : Fin 2) (e : Fin 64) (d h : ℕ) (hd4 : d < 4) (hh : h < 4) (j : Fin 128),
    KT (ix3 b e ⟨(d * 4 + h) * 128 + j.val, keyCol_lt d h hd4 hh j⟩) = (kr (ofRow c b) j (hd c d h hh) e : EReal))
  (hV : ∀ (b : Fin 2) (j : Fin 128) (d h : ℕ) (hd4 : d < 4) (hh : h < 4) (e : Fin 64),
    V (ix3 b j ⟨(d * 4 + h) * 64 + e.val, valCol_lt d h hd4 hh e⟩) = vf (ofRow c b) j (hd c d h hh) e)

include hX hK hV in
theorem elt_att (d : ℕ) (hd4 : d < 4) (Q : FVec Ideal S1x512x256 .bf16)
    (hQ : ∀ (k : Fin 512) (l : Fin 256), Q (ix3 0 k l) = (wr k (col c d l) : EReal)) (b h : ℕ) (hb : b < 2) (hh : h < 4) (r : Fin 128) (e : Fin 64) :
    elt (qOf (F := Ideal) X Q) KT V d b h hd4 hb hh r e = att xr wr kr vf (ofRow c ⟨b, hb⟩) r (hd c d h hh) e := by
  have hw : ∀ (k : Fin 512) (e : Fin 64), wr k (col c d ⟨64 * h + e.val, by omega⟩) = wr k ⟨(hd c d h hh).val * 64 + e.val, by
      have : (hd c d h hh).val < 16 := (hd c d h hh).isLt
      omega⟩ := fun k e =>
    congrArg (wr k) (Fin.ext (by show (dv c d).val * 256 + (64 * h + e.val) = ((dv c d).val * 4 + h) * 64 + e.val; omega))
  have hq : ∀ j : Fin 128, (∑ e : Fin 64, (qOf (F := Ideal) X Q) (ix2 ⟨128 * b + r.val, by omega⟩ ⟨64 * h + e.val, by omega⟩)
      * KT (ix3 ⟨b, hb⟩ e ⟨(d * 4 + h) * 128 + j.val, by omega⟩))
      = (score (xr (ofRow c ⟨b, hb⟩) r) (fun k (e : Fin 64) => wr k ⟨(hd c d h hh).val * 64 + e.val, by
          have : (hd c d h hh).val < 16 := (hd c d h hh).isLt
          omega⟩) (kr (ofRow c ⟨b, hb⟩) j (hd c d h hh)) : EReal) := fun j => by
    rw [← Cert.Softmax.score_first]
    refine Finset.sum_congr rfl fun e _ => ?_
    rw [hK ⟨b, hb⟩ e d h hd4 hh j, qOf_at]
    refine congrArg (· * (kr (ofRow c ⟨b, hb⟩) j (hd c d h hh) e : EReal)) (Finset.sum_congr rfl fun k _ => ?_)
    rw [hX ⟨b, hb⟩ r k, hQ, hw]
  unfold elt att mean
  simp only [hq, hV ⟨b, hb⟩ _ d h hd4 hh]
  rfl

include hX hK hV in
theorem blk_term (d : ℕ) (hd4 : d < 4) (Q : FVec Ideal S1x512x256 .bf16) (O : FVec Ideal S1x256x512 .bf16)
    (hQ : ∀ (k : Fin 512) (l : Fin 256), Q (ix3 0 k l) = (wr k (col c d l) : EReal))
    (hO : ∀ (l : Fin 256) (n : Fin 512), O (ix3 0 l n) = of (col c d l) n) (b : Fin 2) (r : Fin 128) (n : Fin 512) :
    blk (F := Ideal) X KT V d hd4 Q O (ix2 (row b r) n) = ∑ l : Fin 256, term xr wr kr vf of (ofRow c b) r n (col c d l) := by
  rw [blk_at]
  refine Finset.sum_congr rfl fun l _ => ?_
  have hl : l.val < 256 := l.isLt
  rw [elt_congr _ KT V d hd4 _ _ b.isLt (by omega) (show (row b r).val / 128 = b.val by show (128 * b.val + r.val) / 128 = b.val; omega) rfl
      (Fin.ext (by show (128 * b.val + r.val) % 128 = r.val; omega) : (⟨(row b r).val % 128, by omega⟩ : Fin 128) = r) rfl,
    elt_att xr wr kr vf c hX hK hV d hd4 Q hQ, hO]
  unfold term
  refine congrArg (· * of (col c d l) n) (congrArg₂ (att xr wr kr vf (ofRow c b) r) (Fin.ext ?_) (Fin.ext ?_))
  · show (dv c d).val * 4 + l.val / 64 = ((dv c d).val * 256 + l.val) / 64
    omega
  · show l.val % 64 = ((dv c d).val * 256 + l.val) % 64
    omega

/-- The four blocks in a device's order are the four blocks. -/
theorem four (g : Fin 4 → EReal) : ∀ c : Dev nD, g (dv c 0) + g (dv c 3) + g (dv c 1) + g (dv c 2) = ∑ s : Fin 4, g s := fun c => by
  rw [Fin.sum_univ_four]
  match c with
  | 0 => show g 0 + g 3 + g 1 + g 2 = _; ac_rfl
  | 1 => show g 1 + g 0 + g 2 + g 3 = _; ac_rfl
  | 2 => show g 2 + g 1 + g 3 + g 0 = _; ac_rfl
  | 3 => show g 3 + g 2 + g 0 + g 1 = _; ac_rfl

include hX hK hV in
theorem total_term (Q : ℕ → FVec Ideal S1x512x256 .bf16) (O : ℕ → FVec Ideal S1x256x512 .bf16)
    (hQ : ∀ d, d < 4 → ∀ (k : Fin 512) (l : Fin 256), Q d (ix3 0 k l) = (wr k (col c d l) : EReal))
    (hO : ∀ d, d < 4 → ∀ (l : Fin 256) (n : Fin 512), O d (ix3 0 l n) = of (col c d l) n) (b : Fin 2) (r : Fin 128) (n : Fin 512) :
    outV (total (F := Ideal) X KT V Q O) (ix3 b r n) = ∑ J : Fin 1024, term xr wr kr vf of (ofRow c b) r n J := by
  have B := fun d hd4 => blk_term xr wr kr vf of c hX hK hV d hd4 (Q d) (O d) (hQ d hd4) (hO d hd4) b r n
  have e : outV (total (F := Ideal) X KT V Q O) (ix3 b r n)
      = (∑ l : Fin 256, term xr wr kr vf of (ofRow c b) r n (col c 0 l)) + (∑ l : Fin 256, term xr wr kr vf of (ofRow c b) r n (col c 3 l))
        + (∑ l : Fin 256, term xr wr kr vf of (ofRow c b) r n (col c 1 l)) + (∑ l : Fin 256, term xr wr kr vf of (ofRow c b) r n (col c 2 l)) := by
    rw [← B 0 (by decide), ← B 3 (by decide), ← B 1 (by decide), ← B 2 (by decide)]
    rfl
  rw [e]
  refine (four (fun s => ∑ l : Fin 256, term xr wr kr vf of (ofRow c b) r n ⟨s.val * 256 + l.val, by omega⟩) c).trans ?_
  exact Fin.sum_mul_add_fin 4 256 (term xr wr kr vf of (ofRow c b) r n)

end Sums

end Cert.KernelIdeal.Ring
-- ==== Proof.RefValue.lean ====
/-
The reference's result, element by element.
-/
module

public import proofs.«01_k».proof.Proof.Gen.ReferenceIdeal.Run
public import Idealize.ShloMosaic.Lib.Tactic.CleanTypes
public import proofs.«01_k».proof.Proof.Softmax

@[expose] public section

noncomputable section

namespace Cert.ReferenceIdeal.Value

open Cert.ReferenceIdeal Cert.ReferenceIdeal.Gen
open Idealize.ShloMosaic
open Idealize.ShloMosaic.TcCoe

/-- Every query sees every key: their distance is at most 128. -/
theorem sees : ∀ i j : Fin 128, IntOp.cmpi .sle (IntOp.absi (IntOp.subi (BitVec.ofNat 32 i.val) (BitVec.ofNat 32 j.val))) 128#32 = 1#1 := by
  decide +kernel
theorem or_one : ∀ x : BitVec 1, IntOp.ori 1#1 x = 1#1 := by decide
theorem fold_or : Finset.fold IntOp.ori 0#1 (fun _ : Fin 128 => 1#1) Finset.univ = 1#1 := by decide +kernel
theorem select_one {α : Type} (a b : α) : Scalar.select 1#1 a b = a := rfl
theorem low_f32 : Ideal.ofBits .f32 0xFF800000#32 = ⊥ := by
  simp [Ideal.ofBits, Ideal.ieee]

variable (m : (ℓ : Loc nD τ sig) → Buf (Elt Ideal) ℓ) (c : Dev nD)

abbrev argX : FVec Ideal S8x128x512 .bf16 := m ((c.tc : Thread nD τ).loc main_arg0)
abbrev argQ : FVec Ideal S512x1024 .bf16 := m ((c.tc : Thread nD τ).loc main_arg1)
abbrev argK : FVec Ideal S8x128x16x64 .bf16 := m ((c.tc : Thread nD τ).loc main_arg2)
abbrev argV : FVec Ideal S8x128x16x64 .bf16 := m ((c.tc : Thread nD τ).loc main_arg3)
abbrev argO : FVec Ideal S1024x512 .bf16 := m ((c.tc : Thread nD τ).loc main_arg4)

/-- Where the activations, the queries' weights and the keys are real, the result is the weighted means of the values, by heads side by
    side, times the last weights. -/
theorem res_at (xr : Fin 8 → Fin 128 → Fin 512 → ℝ) (wr : Fin 512 → Fin 1024 → ℝ) (kr : Fin 8 → Fin 128 → Fin 16 → Fin 64 → ℝ)
    (hx : ∀ b i k, argX m c (ix3 b i k) = (xr b i k : EReal)) (hw : ∀ k J, argQ m c (ix2 k J) = (wr k J : EReal))
    (hk : ∀ b j h e, argK m c (ix4 b j h e) = (kr b j h e : EReal)) (b : Fin 8) (i : Fin 128) (n : Fin 512) :
    (res_main_v48 m c : FVec Ideal S8x128x512 .bf16) (ix3 b i n)
      = ∑ J : Fin 1024, Cert.Softmax.mean (fun j : Fin 128 => Cert.Softmax.score (xr b i) (fun k (e : Fin 64) => wr k ⟨J.val / 64 * 64 + e.val, by omega⟩)
          (kr b j ⟨J.val / 64, by omega⟩)) (fun j => argV m c (ix4 b j ⟨J.val / 64, by omega⟩ ⟨J.val % 64, by omega⟩)) * argO m c (ix2 J n) := by
  unfold res_main_v48
  clean_types
  pointwise
  refine Finset.sum_congr rfl fun J _ => congrArg (· * argO m c (ix2 J n)) ?_
  simp only [sees, or_one, fold_or, select_one, low_f32, Cert.Softmax.eighth_f32]
  simp only [show ∀ b i k, m ((c.tc : Thread nD τ).loc main_arg0) (ix3 b i k) = (xr b i k : EReal) from hx,
    show ∀ k J, m ((c.tc : Thread nD τ).loc main_arg1) (ix2 k J) = (wr k J : EReal) from hw,
    show ∀ b j h e, m ((c.tc : Thread nD τ).loc main_arg2) (ix4 b j h e) = (kr b j h e : EReal) from hk,
    Cert.Softmax.score_last]
  exact Cert.Softmax.softmax_mean _ _

end Cert.ReferenceIdeal.Value
-- ==== Proof.Agree.lean ====
/-
The two programs agree: where each device's operands are its part of the reference's, and the activations, the queries' weights and the keys
are real, the device's result is its part of the reference's result.
-/
module

public import proofs.«01_k».proof.Proof.Value
public import proofs.«01_k».proof.Proof.RefValue
public import proofs.«01_k».proof.Proof.Region
public import Idealize.ShloMosaic.Lib.Layout
public import Idealize.ShloMosaic.Lib.Pointwise.IndexVar

@[expose] public section

noncomputable section

namespace Cert.KernelIdeal.Ring

open Cert.KernelIdeal Cert.KernelIdeal.Gen
open Idealize.ShloMosaic
open Idealize.ShloMosaic.TcCoe

variable (m : (ℓ : Loc nD τ sig) → Buf (Elt Ideal) ℓ)
  (a0 : FVec Ideal ⟨3, ![8, 128, 512]⟩ .bf16) (a1 : FVec Ideal ⟨2, ![512, 1024]⟩ .bf16) (a2 a3 : FVec Ideal ⟨4, ![8, 128, 16, 64]⟩ .bf16)
  (a4 : FVec Ideal ⟨2, ![1024, 512]⟩ .bf16)

/-- Device `c`'s operands are its part of the whole ones. -/
structure Part (c : Dev nD) : Prop where
  x : m ((c.tc : Thread nD τ).loc main_arg0) = Layout.block ⟨3, ![2, 128, 512]⟩ ⟨3, ![8, 128, 512]⟩ 0 4 c a0
  q : m ((c.tc : Thread nD τ).loc main_arg1) = Layout.block ⟨2, ![512, 256]⟩ ⟨2, ![512, 1024]⟩ 1 4 c a1
  k : m ((c.tc : Thread nD τ).loc main_arg2) = a2
  v : m ((c.tc : Thread nD τ).loc main_arg3) = a3
  o : m ((c.tc : Thread nD τ).loc main_arg4) = Layout.block ⟨2, ![256, 512]⟩ ⟨2, ![1024, 512]⟩ 0 4 c a4

theorem block_rows (v : FVec Ideal ⟨3, ![8, 128, 512]⟩ .bf16) (c : Dev nD) (b : Fin 2) (r : Fin 128) (k : Fin 512) :
    (Layout.block ⟨3, ![2, 128, 512]⟩ ⟨3, ![8, 128, 512]⟩ 0 4 c v) (ix3 b r k) = v (ix3 (ofRow c b) r k) := by
  rw [Layout.block_apply]
  refine congrArg v (funext fun a => Fin.ext ?_)
  match a with
  | ⟨0, _⟩ => (show c.val * 2 + b.val = 2 * c.val + b.val); omega
  | ⟨1, _⟩ => rfl
  | ⟨2, _⟩ => rfl

theorem block_cols (v : FVec Ideal ⟨2, ![512, 1024]⟩ .bf16) (c : Dev nD) (d : ℕ) (k : Fin 512) (l : Fin 256) :
    (Layout.block ⟨2, ![512, 256]⟩ ⟨2, ![512, 1024]⟩ 1 4 (dv c d) v) (ix2 k l) = v (ix2 k (col c d l)) := by
  rw [Layout.block_apply]
  refine congrArg v (funext fun a => Fin.ext ?_)
  match a with
  | ⟨0, _⟩ => rfl
  | ⟨1, _⟩ => rfl

theorem block_lines (v : FVec Ideal ⟨2, ![1024, 512]⟩ .bf16) (c : Dev nD) (d : ℕ) (l : Fin 256) (n : Fin 512) :
    (Layout.block ⟨2, ![256, 512]⟩ ⟨2, ![1024, 512]⟩ 0 4 (dv c d) v) (ix2 l n) = v (ix2 (col c d l) n) := by
  rw [Layout.block_apply]
  refine congrArg v (funext fun a => Fin.ext ?_)
  match a with
  | ⟨0, _⟩ => rfl
  | ⟨1, _⟩ => rfl

variable {m a0 a1 a2 a3 a4}

theorem device_at (hp : ∀ c, Part m a0 a1 a2 a3 a4 c) (xr : Fin 8 → Fin 128 → Fin 512 → ℝ) (wr : Fin 512 → Fin 1024 → ℝ) (kr : Fin 8 → Fin 128 → Fin 16 → Fin 64 → ℝ)
    (hx : ∀ b i k, a0 (ix3 b i k) = (xr b i k : EReal)) (hw : ∀ k J, a1 (ix2 k J) = (wr k J : EReal))
    (hk : ∀ b j h e, a2 (ix4 b j h e) = (kr b j h e : EReal)) (c : Dev nD) (b : Fin 2) (r : Fin 128) (n : Fin 512) :
    resOf (V5 m) c (ix3 b r n) = ∑ J : Fin 1024, term xr wr kr (fun b j h e => a3 (ix4 b j h e)) (fun J n => a4 (ix2 J n)) (ofRow c b) r n J := by
  have hc : c.val < 4 := c.isLt
  have hturn : ∀ (d h : ℕ) (hh : h < 4), d < 4 → (d * 4 + h + 4 * c.val) % 16 = (c.val + d) % 4 * 4 + h := fun d h hh hd4 => by omega
  refine total_term xr wr kr (fun b j h e => a3 (ix4 b j h e)) (fun J n => a4 (ix2 J n)) c ?_ ?_ ?_ _ _ ?_ ?_ b r n
  · intro b r k
    refine (acts_eq m c ⟨128 * b.val + r.val, by omega⟩ k).trans ?_
    rw [(hp c).x]
    refine congrArg₂ (· * ·) ?_ Cert.Softmax.eighth_bf16
    refine Eq.trans ?_ ((block_rows a0 c b r k).trans (hx (ofRow c b) r k))
    exact congrArg (Layout.block ⟨3, ![2, 128, 512]⟩ ⟨3, ![8, 128, 512]⟩ 0 4 c a0) (congrArg₂ (fun z w => ix3 z w k)
      (Fin.ext (by show (128 * b.val + r.val) / 128 = b.val; omega)) (Fin.ext (by show (128 * b.val + r.val) % 128 = r.val; omega)))
  · intro b e d h hd4 hh j
    refine (keys_eq m c b e ⟨(d * 4 + h) * 128 + j.val, by omega⟩).trans ?_
    rw [(hp c).k]
    refine Eq.trans ?_ (hk (ofRow c b) j (hd c d h hh) e)
    refine congrArg₂ (fun z w => a2 (ix4 (ofRow c b) z w e)) (Fin.ext (by show ((d * 4 + h) * 128 + j.val) % 128 = j.val; omega)) (Fin.ext ?_)
    show (((d * 4 + h) * 128 + j.val) / 128 + 4 * c.val) % 16 = (c.val + d) % 4 * 4 + h
    rw [← hturn d h hh hd4]
    omega
  · intro b j d h hd4 hh e
    refine (values_eq m c b j ⟨(d * 4 + h) * 64 + e.val, by omega⟩).trans ?_
    rw [(hp c).v]
    refine congrArg₂ (fun z w => a3 (ix4 (ofRow c b) j z w)) (Fin.ext ?_) (Fin.ext (by show ((d * 4 + h) * 64 + e.val) % 64 = e.val; omega))
    show (((d * 4 + h) * 64 + e.val) / 64 + 4 * c.val) % 16 = (c.val + d) % 4 * 4 + h
    rw [← hturn d h hh hd4]
    omega
  · intro d hd4 k l
    show V5 m (dv c d) main_arg1 (ix2 k l) = _
    rw [V5_of m (dv c d) main_arg1 (by decide), V4_of m (dv c d) main_arg1 (by decide), V3_of m (dv c d) main_arg1 (by decide),
      V2_of m (dv c d) main_arg1 (by decide), V1_of m (dv c d) main_arg1 (by decide)]
    refine (congrFun (hp (dv c d)).q (ix2 k l)).trans ?_
    rw [block_cols, hw]
  · intro d hd4 l n
    show V5 m (dv c d) main_arg4 (ix2 l n) = _
    rw [V5_of m (dv c d) main_arg4 (by decide), V4_of m (dv c d) main_arg4 (by decide), V3_of m (dv c d) main_arg4 (by decide),
      V2_of m (dv c d) main_arg4 (by decide), V1_of m (dv c d) main_arg4 (by decide)]
    refine (congrFun (hp (dv c d)).o (ix2 l n)).trans ?_
    rw [block_lines]

/-- Finite on every device, the whole operands are real. -/
theorem reals (hp : ∀ c, Part m a0 a1 a2 a3 a4 c)
    (hf : ∀ c : Dev nD, (∀ i, ∃ r : ℝ, (m ((c.tc : Thread nD τ).loc main_arg0) : FVec Ideal S2x128x512 .bf16) i = (r : EReal))
      ∧ (∀ i, ∃ r : ℝ, (m ((c.tc : Thread nD τ).loc main_arg1) : FVec Ideal S512x256 .bf16) i = (r : EReal))
      ∧ (∀ i, ∃ r : ℝ, (m ((c.tc : Thread nD τ).loc main_arg2) : FVec Ideal S8x128x16x64 .bf16) i = (r : EReal))) :
    (∀ b i k, ∃ r : ℝ, a0 (ix3 b i k) = (r : EReal)) ∧ (∀ k J, ∃ r : ℝ, a1 (ix2 k J) = (r : EReal)) ∧ (∀ b j h e, ∃ r : ℝ, a2 (ix4 b j h e) = (r : EReal)) := by
  refine ⟨fun b i k => ?_, fun k J => ?_, fun b j h e => ?_⟩
  · let c : Dev nD := (⟨b.val / 2, by omega⟩ : Fin 4)
    obtain ⟨r, hr⟩ := (hf c).1 (ix3 ⟨b.val % 2, by omega⟩ i k)
    refine ⟨r, Eq.trans ?_ hr⟩
    rw [(hp c).x]
    refine Eq.trans ?_ (block_rows a0 c ⟨b.val % 2, by omega⟩ i k).symm
    exact congrArg (fun z => a0 (ix3 z i k)) (Fin.ext (by show b.val = 2 * (b.val / 2) + b.val % 2; omega))
  · let c : Dev nD := (⟨J.val / 256, by omega⟩ : Fin 4)
    obtain ⟨r, hr⟩ := (hf (dv c 0)).2.1 (ix2 k ⟨J.val % 256, by omega⟩)
    refine ⟨r, Eq.trans ?_ hr⟩
    rw [(hp (dv c 0)).q]
    refine Eq.trans ?_ (block_cols a1 c 0 k ⟨J.val % 256, by omega⟩).symm
    exact congrArg (fun z => a1 (ix2 k z)) (Fin.ext (by show J.val = (J.val / 256 + 0) % 4 * 256 + J.val % 256; omega))
  · obtain ⟨r, hr⟩ := (hf 0).2.2 (ix4 b j h e)
    exact ⟨r, by rw [← hr, (hp 0).k]⟩

/-- An index of three axes is its coordinates. -/
theorem ix3_eta {p q s : ℕ} (i : (⟨3, ![p, q, s]⟩ : Shape).Idx) : i = ix3 (i 0) (i 1) (i 2) := funext fun a => match a with
  | ⟨0, _⟩ => rfl
  | ⟨1, _⟩ => rfl
  | ⟨2, _⟩ => rfl

/-- The device's result is its part of the reference's. -/
theorem result_eq (m' : (ℓ : Loc Cert.ReferenceIdeal.nD Cert.ReferenceIdeal.τ Cert.ReferenceIdeal.sig) → Buf (Elt Ideal) ℓ)
    (hp : ∀ c, Part m (Cert.ReferenceIdeal.Value.argX m' 0) (Cert.ReferenceIdeal.Value.argQ m' 0) (Cert.ReferenceIdeal.Value.argK m' 0)
      (Cert.ReferenceIdeal.Value.argV m' 0) (Cert.ReferenceIdeal.Value.argO m' 0) c)
    (xr : Fin 8 → Fin 128 → Fin 512 → ℝ) (wr : Fin 512 → Fin 1024 → ℝ) (kr : Fin 8 → Fin 128 → Fin 16 → Fin 64 → ℝ)
    (hx : ∀ b i k, Cert.ReferenceIdeal.Value.argX m' 0 (ix3 b i k) = (xr b i k : EReal)) (hw : ∀ k J, Cert.ReferenceIdeal.Value.argQ m' 0 (ix2 k J) = (wr k J : EReal))
    (hk : ∀ b j h e, Cert.ReferenceIdeal.Value.argK m' 0 (ix4 b j h e) = (kr b j h e : EReal)) (c : Dev nD) :
    resOf (V5 m) c = Layout.block ⟨3, ![2, 128, 512]⟩ ⟨3, ![8, 128, 512]⟩ 0 4 c (Cert.ReferenceIdeal.Value.res_main_v48 m' 0) := by
  funext i
  rw [ix3_eta i]
  refine (device_at hp xr wr kr hx hw hk c (i 0) (i 1) (i 2)).trans ?_
  refine Eq.trans ?_ (block_rows _ c (i 0) (i 1) (i 2)).symm
  exact (Cert.ReferenceIdeal.Value.res_at m' 0 xr wr kr hx hw hk (ofRow c (i 0)) (i 1) (i 2)).symm

end Cert.KernelIdeal.Ring
-- ==== Proof.Finite.lean ====
/-
What the precondition says: every element of the activations, of the queries' weights and of the keys is a real number.
-/
module

public import proofs.«01_k».proof.Pre_finite_KernelIdeal
public import proofs.«01_k».proof.Pre_finite_ReferenceIdeal
public import proofs.«01_k».proof.Proof.Softmax
public import Idealize.ShloMosaic.Lib.ReduceAll

@[expose] public section

noncomputable section

open Idealize.ShloMosaic

theorem Cert.Pre_finite_KernelIdeal.facts : Cert.Pre_finite_KernelIdeal.Facts := by
  constructor <;> decide
theorem Cert.Pre_finite_ReferenceIdeal.facts : Cert.Pre_finite_ReferenceIdeal.Facts := by
  constructor <;> decide

namespace Cert.Pre_finite_KernelIdeal

theorem top_bf16 : Ideal.ofBits .bf16 0x7F80#16 = ⊤ := by
  simp [Ideal.ofBits, Ideal.ieee]

theorem real_of_word {a : EReal} (h : Ideal.cmp .olt (max a (-a)) (Ideal.ofBits .bf16 0x7F80#16) = 1#1) : ∃ r : ℝ, a = (r : EReal) := by
  rw [top_bf16] at h
  refine Cert.Softmax.real_of_test ?_
  by_contra hn
  simp [Ideal.cmp, hn] at h

theorem only : ∀ i j : S_.Idx, i = j := fun i j => funext fun a => a.elim0

theorem finite [Facts] (a0 : FVec Ideal S2x128x512 .bf16) (a1 : FVec Ideal S512x256 .bf16) (a2 a3 : FVec Ideal S8x128x16x64 .bf16) (a4 : FVec Ideal S256x512 .bf16)
    (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) := by
  haveI : Subsingleton S_.Idx := ⟨only⟩
  have h0 := congrFun h ix0
  unfold fn at h0
  obtain ⟨h01, h2⟩ := IntOp.andi_eq_one.1 h0
  obtain ⟨h0, h1⟩ := IntOp.andi_eq_one.1 h01
  exact ⟨fun i => real_of_word (Host.reduce_andi_all _ _ _ _ _ h0 i), fun i => real_of_word (Host.reduce_andi_all _ _ _ _ _ h1 i),
    fun i => real_of_word (Host.reduce_andi_all _ _ _ _ _ h2 i)⟩

end Cert.Pre_finite_KernelIdeal
-- ==== Proof.lean ====
/- The certificate: every program of the claim ends with its arguments as they were and its counters at zero, and at the ideal reading the
kernel's devices hold their parts of the reference's result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Whole
public import proofs.«01_k».proof.Proof.WholeK
public import proofs.«01_k».proof.Proof.Agree
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem

/-- It ends; its arguments are as they were; every counter is zero. -/
theorem frame_Kernel : quiescent_Kernel (hKernel := Cert.Kernel.Gen.facts) := fun m g _ =>
  (θ_run _ _ _).mono (fun _ h => ⟨fun c => (h.1 c).1, h.2⟩) (Cert.Kernel.Ring.run_main m g)

/-- It ends; its arguments are as they were; every counter is zero. -/
theorem frame_KernelIdeal : quiescent_KernelIdeal (hKernelIdeal := Cert.KernelIdeal.Gen.facts) := fun m g _ =>
  (θ_run _ _ _).mono (fun _ h => ⟨fun c => (h.1 c).1, h.2⟩) (Cert.KernelIdeal.Ring.run_main m g)

/-- It ends; its arguments are as they were; every counter is zero. -/
theorem frame_ReferenceIdeal : quiescent_ReferenceIdeal (hReferenceIdeal := Cert.ReferenceIdeal.Gen.facts) := fun m g _ =>
  (θ_run _ _ _).mono (fun _ h => ⟨fun c => (h c).2, sem_eq_zero_of_no_sems (by decide) _⟩) (Cert.ReferenceIdeal.Value.run m g)

/-- The two results agree, part by part. -/
theorem agree : algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.facts) := by
  intro m g m' g' hpre hparts
  haveI := Cert.Pre_finite_KernelIdeal.facts
  have hp : ∀ c, Cert.KernelIdeal.Ring.Part m (Cert.ReferenceIdeal.Value.argX m' 0) (Cert.ReferenceIdeal.Value.argQ m' 0) (Cert.ReferenceIdeal.Value.argK m' 0)
      (Cert.ReferenceIdeal.Value.argV m' 0) (Cert.ReferenceIdeal.Value.argO m' 0) c := fun c =>
    ⟨(hparts c).1, (hparts c).2.1, (hparts c).2.2.1, (hparts c).2.2.2.1, (hparts c).2.2.2.2⟩
  obtain ⟨h0, h1, h2⟩ := Cert.KernelIdeal.Ring.reals hp (fun c => Cert.Pre_finite_KernelIdeal.finite _ _ _ _ _ (hpre c))
  choose xr hx using h0
  choose wr hw using h1
  choose kr hk using h2
  refine ⟨Cert.ReferenceIdeal.Value.res_main_v48 m' 0, ?_, ?_⟩
  · exact (θ_run _ _ _).mono (fun r h c => ⟨(h.1 c).2.1.trans (Cert.KernelIdeal.Ring.result_eq m' hp xr wr kr hx hw hk c), (h.1 c).1⟩)
      (Cert.KernelIdeal.Ring.run_main m g)
  · exact (θ_run _ _ _).mono (fun r h => h 0) (Cert.ReferenceIdeal.Value.run m' g')

theorem claim : Cert.Claim :=
  ⟨Cert.Kernel.Gen.facts, Cert.KernelIdeal.Gen.facts, Cert.ReferenceIdeal.Gen.facts, Cert.Pre_finite_KernelIdeal.facts, Cert.Pre_finite_ReferenceIdeal.facts,
    frame_Kernel, frame_KernelIdeal, fun m g _ => frame_KernelIdeal m g trivial, frame_ReferenceIdeal, fun m g _ => frame_ReferenceIdeal m g trivial, trivial, agree⟩

end Cert.Proof

end
